-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2048, 8, 128]⟩ ⟨3, ![2048, 256, 128]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![2048, 8, 128]⟩ ⟨3, ![2048, 256, 128]⟩ 1 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 16, 1024]⟩ ⟨3, ![1, 512, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = m' (((0 : Dev Cert.GatherReferenceIdeal.nD).tc : Thread Cert.GatherReferenceIdeal.nD Cert.GatherReferenceIdeal.τ).loc Cert.GatherReferenceIdeal.main_arg0)
      ∧ m ((c.tc : Thread Cert.GatherIdeal.nD Cert.GatherIdeal.τ).loc Cert.GatherIdeal.main_arg1) = Layout.block ⟨2, ![1024, 1024]⟩ ⟨2, ![1024, 32768]⟩ 1 32 c (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.block ⟨2, ![1024, 1024]⟩ ⟨2, ![32768, 1024]⟩ 0 32 c (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.block ⟨3, ![2048, 8, 128]⟩ ⟨3, ![2048, 256, 128]⟩ 1 32 c (m' (((0 : Dev Cert.GatherReferenceIdeal.nD).tc : Thread Cert.GatherReferenceIdeal.nD Cert.GatherReferenceIdeal.τ).loc Cert.GatherReferenceIdeal.main_arg3))
      ∧ m ((c.tc : Thread Cert.GatherIdeal.nD Cert.GatherIdeal.τ).loc Cert.GatherIdeal.main_arg4) = Layout.block ⟨3, ![2048, 8, 128]⟩ ⟨3, ![2048, 256, 128]⟩ 1 32 c (m' (((0 : Dev Cert.GatherReferenceIdeal.nD).tc : Thread Cert.GatherReferenceIdeal.nD Cert.GatherReferenceIdeal.τ).loc Cert.GatherReferenceIdeal.main_arg4))) →
    ∃ (v0 : Buf (Elt Ideal) (((0 : Dev Cert.GatherReferenceIdeal.nD).tc : Thread Cert.GatherReferenceIdeal.nD Cert.GatherReferenceIdeal.τ).loc Cert.GatherReferenceIdeal.main_v19)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v19) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_GatherReferenceIdeal (hGatherReferenceIdeal := hGatherReferenceIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal)
-- ==== Kernel.lean ====
abbrev S1x512x1024 : Shape := ⟨3, ![1, 512, 1024]⟩
abbrev S1024x1024 : Shape := ⟨2, ![1024, 1024]⟩
abbrev S2048x8x128 : Shape := ⟨3, ![2048, 8, 128]⟩
abbrev S1x16x1024 : Shape := ⟨3, ![1, 16, 1024]⟩
abbrev S512x1024 : Shape := ⟨2, ![512, 1024]⟩
abbrev S31x16x1024 : Shape := ⟨3, ![31, 16, 1024]⟩
abbrev S31 : Shape := ⟨1, ![31]⟩
abbrev S_ : Shape := ⟨0, ![]⟩
abbrev S512x128 : Shape := ⟨2, ![512, 128]⟩
abbrev S2048x1x128 : Shape := ⟨3, ![2048, 1, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S16x1024 : Shape := ⟨2, ![16, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S2048x8x128, .f32⟩
  | .hbm, ⟨4, _⟩ => ⟨S2048x8x128, .f32⟩
  | .hbm, ⟨5, _⟩ => ⟨S1x16x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S2048x8x128, .f32⟩
  | .local _ .vmem, ⟨4, _⟩ => ⟨S2048x8x128, .f32⟩
  | .local _ .vmem, ⟨5, _⟩ => ⟨S1x16x1024, .f32⟩
  | .local _ .vmem, ⟨6, _⟩ => ⟨S512x1024, .f32⟩
  | .local _ .vmem, ⟨7, _⟩ => ⟨S31x16x1024, .f32⟩
  | _, _ => ⟨S1x512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_110 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v187 : BitVec 32 := Scalar.subi v2 c0_i32_110
  let c32_i32_111 : BitVec 32 := 32#32
  let v188 : BitVec 32 := Scalar.addi v187 c32_i32_111
  let c32_i32_112 : BitVec 32 := 32#32
  let c0_i32_113 : BitVec 32 := 0#32
  let v189 : BitVec 1 := Scalar.cmpi .eq c32_i32_112 c0_i32_113
  let c1_i32_114 : BitVec 32 := 1#32
  let v190 : BitVec 32 := Scalar.select v189 c1_i32_114 c32_i32_112
  let v191 : BitVec 32 := Scalar.remsi v188 v190
  let c0_i32_116 : BitVec 32 := 0#32
  let v193 : BitVec 1 := Scalar.cmpi .slt v191 c0_i32_116
  let c0_i32_117 : BitVec 32 := 0#32
  let v194 : BitVec 1 := Scalar.cmpi .slt v190 c0_i32_117
  let v195 : BitVec 1 := Scalar.xori v193 v194
  let c0_i32_115 : BitVec 32 := 0#32
  let v192 : BitVec 1 := Scalar.cmpi .ne v191 c0_i32_115
  let v196 : BitVec 1 := Scalar.andi v195 v192
  let v197 : BitVec 32 := Scalar.addi v191 v190
  let v198 : BitVec 32 := Scalar.select v196 v197 v191
  let c16_i32 : BitVec 32 := 16#32
  let v199 : BitVec 32 := Scalar.muli v198 c16_i32
  let c0_i32_125 : BitVec 32 := 0#32
  ![v199.toNat, 0]
def k0_dev3 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v200 : BitVec 32 := Scalar.muli v25 c1_i32_121
  let v201 : BitVec 32 := Scalar.addi c0_i32_122 v200
  v201.toNat
def k0_off2 (d0 : Dev nD) (c0_i32_141 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v221 : BitVec 32 := Scalar.subi v2 c0_i32_141
  let c1_i32_142 : BitVec 32 := 1#32
  let v222 : BitVec 32 := Scalar.subi v221 c1_i32_142
  let c32_i32_143 : BitVec 32 := 32#32
  let v223 : BitVec 32 := Scalar.addi v222 c32_i32_143
  let c32_i32_144 : BitVec 32 := 32#32
  let c0_i32_145 : BitVec 32 := 0#32
  let v224 : BitVec 1 := Scalar.cmpi .eq c32_i32_144 c0_i32_145
  let c1_i32_146 : BitVec 32 := 1#32
  let v225 : BitVec 32 := Scalar.select v224 c1_i32_146 c32_i32_144
  let v226 : BitVec 32 := Scalar.remsi v223 v225
  let c0_i32_148 : BitVec 32 := 0#32
  let v228 : BitVec 1 := Scalar.cmpi .slt v226 c0_i32_148
  let c0_i32_149 : BitVec 32 := 0#32
  let v229 : BitVec 1 := Scalar.cmpi .slt v225 c0_i32_149
  let v230 : BitVec 1 := Scalar.xori v228 v229
  let c0_i32_147 : BitVec 32 := 0#32
  let v227 : BitVec 1 := Scalar.cmpi .ne v226 c0_i32_147
  let v231 : BitVec 1 := Scalar.andi v230 v227
  let v232 : BitVec 32 := Scalar.addi v226 v225
  let v233 : BitVec 32 := Scalar.select v231 v232 v226
  let c16_i32_150 : BitVec 32 := 16#32
  let v234 : BitVec 32 := Scalar.muli v233 c16_i32_150
  let v235 : Index := Scalar.indexCast v234
  let c0_151 : Index := 0#32
  ![v235.toNat, 0]
def k0_dev4 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_168 : BitVec 32 := 1#32
  let v257 : BitVec 32 := Scalar.muli v25 c1_i32_168
  let v258 : BitVec 32 := Scalar.addi c0_i32_169 v257
  v258.toNat
def k0_dev5 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_215 : BitVec 32 := 1#32
  let v314 : BitVec 32 := Scalar.muli v25 c1_i32_215
  let v315 : BitVec 32 := Scalar.addi c0_i32_216 v314
  v315.toNat
def k0_dev6 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_261 : BitVec 32 := 1#32
  let v371 : BitVec 32 := Scalar.muli v25 c1_i32_261
  let v372 : BitVec 32 := Scalar.addi c0_i32_262 v371
  v372.toNat
def k0_dev7 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_307 : BitVec 32 := 1#32
  let v428 : BitVec 32 := Scalar.muli v25 c1_i32_307
  let v429 : BitVec 32 := Scalar.addi c0_i32_308 v428
  v429.toNat
def k0_dev8 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_353 : BitVec 32 := 1#32
  let v485 : BitVec 32 := Scalar.muli v25 c1_i32_353
  let v486 : BitVec 32 := Scalar.addi c0_i32_354 v485
  v486.toNat
def k0_dev9 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_399 : BitVec 32 := 1#32
  let v542 : BitVec 32 := Scalar.muli v25 c1_i32_399
  let v543 : BitVec 32 := Scalar.addi c0_i32_400 v542
  v543.toNat
def k0_dev10 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_445 : BitVec 32 := 1#32
  let v599 : BitVec 32 := Scalar.muli v25 c1_i32_445
  let v600 : BitVec 32 := Scalar.addi c0_i32_446 v599
  v600.toNat
def k0_dev11 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_491 : BitVec 32 := 1#32
  let v656 : BitVec 32 := Scalar.muli v25 c1_i32_491
  let v657 : BitVec 32 := Scalar.addi c0_i32_492 v656
  v657.toNat
def k0_dev12 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_536 : BitVec 32 := 1#32
  let v713 : BitVec 32 := Scalar.muli v25 c1_i32_536
  let v714 : BitVec 32 := Scalar.addi c0_i32_537 v713
  v714.toNat
def k0_dev13 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_581 : BitVec 32 := 1#32
  let v770 : BitVec 32 := Scalar.muli v25 c1_i32_581
  let v771 : BitVec 32 := Scalar.addi c0_i32_582 v770
  v771.toNat
def k0_dev14 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_626 : BitVec 32 := 1#32
  let v827 : BitVec 32 := Scalar.muli v25 c1_i32_626
  let v828 : BitVec 32 := Scalar.addi c0_i32_627 v827
  v828.toNat
def k0_dev15 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_671 : BitVec 32 := 1#32
  let v884 : BitVec 32 := Scalar.muli v25 c1_i32_671
  let v885 : BitVec 32 := Scalar.addi c0_i32_672 v884
  v885.toNat
def k0_dev16 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_716 : BitVec 32 := 1#32
  let v941 : BitVec 32 := Scalar.muli v25 c1_i32_716
  let v942 : BitVec 32 := Scalar.addi c0_i32_717 v941
  v942.toNat
def k0_dev17 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_761 : BitVec 32 := 1#32
  let v998 : BitVec 32 := Scalar.muli v25 c1_i32_761
  let v999 : BitVec 32 := Scalar.addi c0_i32_762 v998
  v999.toNat
def k0_dev18 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_806 : BitVec 32 := 1#32
  let v1055 : BitVec 32 := Scalar.muli v25 c1_i32_806
  let v1056 : BitVec 32 := Scalar.addi c0_i32_807 v1055
  v1056.toNat
def k0_dev19 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_852 : BitVec 32 := 1#32
  let v1112 : BitVec 32 := Scalar.muli v25 c1_i32_852
  let v1113 : BitVec 32 := Scalar.addi c0_i32_853 v1112
  v1113.toNat
def k0_dev20 (d0 : Dev nD) : Nat :=
  let c0_i32_898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_897 : BitVec 32 := 1#32
  let v1169 : BitVec 32 := Scalar.muli v25 c1_i32_897
  let v1170 : BitVec 32 := Scalar.addi c0_i32_898 v1169
  v1170.toNat
def k0_dev21 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_942 : BitVec 32 := 1#32
  let v1226 : BitVec 32 := Scalar.muli v25 c1_i32_942
  let v1227 : BitVec 32 := Scalar.addi c0_i32_943 v1226
  v1227.toNat
def k0_dev22 (d0 : Dev nD) : Nat :=
  let c0_i32_988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_987 : BitVec 32 := 1#32
  let v1283 : BitVec 32 := Scalar.muli v25 c1_i32_987
  let v1284 : BitVec 32 := Scalar.addi c0_i32_988 v1283
  v1284.toNat
def k0_dev23 (d0 : Dev nD) : Nat :=
  let c0_i32_1033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1032 : BitVec 32 := 1#32
  let v1340 : BitVec 32 := Scalar.muli v25 c1_i32_1032
  let v1341 : BitVec 32 := Scalar.addi c0_i32_1033 v1340
  v1341.toNat
def k0_dev24 (d0 : Dev nD) : Nat :=
  let c0_i32_1078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1077 : BitVec 32 := 1#32
  let v1397 : BitVec 32 := Scalar.muli v25 c1_i32_1077
  let v1398 : BitVec 32 := Scalar.addi c0_i32_1078 v1397
  v1398.toNat
def k0_dev25 (d0 : Dev nD) : Nat :=
  let c0_i32_1123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1122 : BitVec 32 := 1#32
  let v1454 : BitVec 32 := Scalar.muli v25 c1_i32_1122
  let v1455 : BitVec 32 := Scalar.addi c0_i32_1123 v1454
  v1455.toNat
def k0_dev26 (d0 : Dev nD) : Nat :=
  let c0_i32_1168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1167 : BitVec 32 := 1#32
  let v1511 : BitVec 32 := Scalar.muli v25 c1_i32_1167
  let v1512 : BitVec 32 := Scalar.addi c0_i32_1168 v1511
  v1512.toNat
def k0_dev27 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1212 : BitVec 32 := 1#32
  let v1568 : BitVec 32 := Scalar.muli v25 c1_i32_1212
  let v1569 : BitVec 32 := Scalar.addi c0_i32_1213 v1568
  v1569.toNat
def k0_dev28 (d0 : Dev nD) : Nat :=
  let c0_i32_1258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1257 : BitVec 32 := 1#32
  let v1625 : BitVec 32 := Scalar.muli v25 c1_i32_1257
  let v1626 : BitVec 32 := Scalar.addi c0_i32_1258 v1625
  v1626.toNat
def k0_dev29 (d0 : Dev nD) : Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1302 : BitVec 32 := 1#32
  let v1682 : BitVec 32 := Scalar.muli v25 c1_i32_1302
  let v1683 : BitVec 32 := Scalar.addi c0_i32_1303 v1682
  v1683.toNat
def k0_dev30 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1347 : BitVec 32 := 1#32
  let v1739 : BitVec 32 := Scalar.muli v25 c1_i32_1347
  let v1740 : BitVec 32 := Scalar.addi c0_i32_1348 v1739
  v1740.toNat
def k0_dev31 (d0 : Dev nD) : Nat :=
  let c0_i32_1393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1392 : BitVec 32 := 1#32
  let v1796 : BitVec 32 := Scalar.muli v25 c1_i32_1392
  let v1797 : BitVec 32 := Scalar.addi c0_i32_1393 v1796
  v1797.toNat
def k0_dev32 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1437 : BitVec 32 := 1#32
  let v1853 : BitVec 32 := Scalar.muli v25 c1_i32_1437
  let v1854 : BitVec 32 := Scalar.addi c0_i32_1438 v1853
  v1854.toNat
def k0_dev33 (d0 : Dev nD) : Nat :=
  let c0_i32_1483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1482 : BitVec 32 := 1#32
  let v1910 : BitVec 32 := Scalar.muli v25 c1_i32_1482
  let v1911 : BitVec 32 := Scalar.addi c0_i32_1483 v1910
  v1911.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1516 : BitVec 32 := 1#32
  let v1954 : BitVec 32 := Scalar.addi v2 c1_i32_1516
  let c32_i32_1517 : BitVec 32 := 32#32
  let c0_i32_1518 : BitVec 32 := 0#32
  let v1955 : BitVec 1 := Scalar.cmpi .eq c32_i32_1517 c0_i32_1518
  let c1_i32_1519 : BitVec 32 := 1#32
  let v1956 : BitVec 32 := Scalar.select v1955 c1_i32_1519 c32_i32_1517
  let v1957 : BitVec 32 := Scalar.remsi v1954 v1956
  let c0_i32_1521 : BitVec 32 := 0#32
  let v1959 : BitVec 1 := Scalar.cmpi .slt v1957 c0_i32_1521
  let c0_i32_1522 : BitVec 32 := 0#32
  let v1960 : BitVec 1 := Scalar.cmpi .slt v1956 c0_i32_1522
  let v1961 : BitVec 1 := Scalar.xori v1959 v1960
  let c0_i32_1520 : BitVec 32 := 0#32
  let v1958 : BitVec 1 := Scalar.cmpi .ne v1957 c0_i32_1520
  let v1962 : BitVec 1 := Scalar.andi v1961 v1958
  let v1963 : BitVec 32 := Scalar.addi v1957 v1956
  let v1964 : BitVec 32 := Scalar.select v1962 v1963 v1957
  let c16_i32_1523 : BitVec 32 := 16#32
  let v1965 : BitVec 32 := Scalar.muli v1964 c16_i32_1523
  let v1966 : Index := Scalar.indexCast v1965
  let c0_1524 : Index := 0#32
  ![v1966.toNat, 0]
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x32768 : Shape := ⟨2, ![1024, 32768]⟩
abbrev S32768x1024 : Shape := ⟨2, ![32768, 1024]⟩
abbrev S2048x256x128 : Shape := ⟨3, ![2048, 256, 128]⟩
abbrev S1x512x32768 : Shape := ⟨3, ![1, 512, 32768]⟩
abbrev S1x512x256x128 : Shape := ⟨4, ![1, 512, 256, 128]⟩
abbrev S256x2048x1x512 : Shape := ⟨4, ![256, 2048, 1, 512]⟩
abbrev S1x256x512x2048 : Shape := ⟨4, ![1, 256, 512, 2048]⟩
abbrev S_ : Shape := ⟨0, ![]⟩
abbrev S1x256x512 : Shape := ⟨3, ![1, 256, 512]⟩
abbrev S1x256x512x1 : Shape := ⟨4, ![1, 256, 512, 1]⟩
abbrev S256x128x1x512 : Shape := ⟨4, ![256, 128, 1, 512]⟩
abbrev S1x512x256x1 : Shape := ⟨4, ![1, 512, 256, 1]⟩
abbrev S1x496x1024 : Shape := ⟨3, ![1, 496, 1024]⟩
abbrev S1x16x1024 : Shape := ⟨3, ![1, 16, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x32768, .f32⟩
  | .hbm, ⟨2, _⟩ => ⟨S32768x1024, .f32⟩
  | .hbm, ⟨3, _⟩ => ⟨S2048x256x128, .f32⟩
  | .hbm, ⟨4, _⟩ => ⟨S2048x256x128, .f32⟩
  | .hbm, ⟨5, _⟩ => ⟨S1x512x32768, .f32⟩
  | .hbm, ⟨6, _⟩ => ⟨S1x512x256x128, .f32⟩
  | .hbm, ⟨7, _⟩ => ⟨S256x2048x1x512, .f32⟩
  | .hbm, ⟨8, _⟩ => ⟨S1x256x512x2048, .f32⟩
  | .hbm, ⟨9, _⟩ => ⟨S_, .f32⟩
  | .hbm, ⟨10, _⟩ => ⟨S1x256x512x2048, .f32⟩
  | .hbm, ⟨11, _⟩ => ⟨S1x256x512x2048, .f32⟩
  | .hbm, ⟨12, _⟩ => ⟨S_, .f32⟩
  | .hbm, ⟨13, _⟩ => ⟨S1x256x512, .f32⟩
  | .hbm, ⟨14, _⟩ => ⟨S1x256x512x1, .f32⟩
  | .hbm, ⟨15, _⟩ => ⟨S1x256x512x2048, .f32⟩
  | .hbm, ⟨16, _⟩ => ⟨S1x256x512x2048, .f32⟩
  | .hbm, ⟨17, _⟩ => ⟨S1x256x512x2048, .f32⟩
  | .hbm, ⟨18, _⟩ => ⟨S_, .f32⟩
  | .hbm, ⟨19, _⟩ => ⟨S1x256x512, .f32⟩
  | .hbm, ⟨20, _⟩ => ⟨S1x256x512x1, .f32⟩
  | .hbm, ⟨21, _⟩ => ⟨S256x128x1x512, .f32⟩
  | .hbm, ⟨22, _⟩ => ⟨S1x512x256x128, .f32⟩
  | .hbm, ⟨23, _⟩ => ⟨S1x512x256x1, .f32⟩
  | .hbm, ⟨24, _⟩ => ⟨S1x512x256x128, .f32⟩
  | .hbm, ⟨25, _⟩ => ⟨S1x512x256x128, .f32⟩
  | .hbm, ⟨26, _⟩ => ⟨S1x512x32768, .f32⟩
  | .hbm, ⟨27, _⟩ => ⟨S1x512x1024, .f32⟩
  | .hbm, ⟨28, _⟩ => ⟨S1x496x1024, .f32⟩
  | .hbm, ⟨29, _⟩ => ⟨S1x16x1024, .f32⟩
  | .hbm, ⟨30, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Gather.lean ====
abbrev S1x512x1024 : Shape := ⟨3, ![1, 512, 1024]⟩
abbrev S1024x1024 : Shape := ⟨2, ![1024, 1024]⟩
abbrev S2048x8x128 : Shape := ⟨3, ![2048, 8, 128]⟩
abbrev S512x1024 : Shape := ⟨2, ![512, 1024]⟩
abbrev S31x16x1024 : Shape := ⟨3, ![31, 16, 1024]⟩
abbrev S31 : Shape := ⟨1, ![31]⟩
abbrev S_ : Shape := ⟨0, ![]⟩
abbrev S512x128 : Shape := ⟨2, ![512, 128]⟩
abbrev S2048x1x128 : Shape := ⟨3, ![2048, 1, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x16x1024 : Shape := ⟨3, ![1, 16, 1024]⟩
abbrev S16x1024 : Shape := ⟨2, ![16, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S2048x8x128, .f32⟩
  | .hbm, ⟨4, _⟩ => ⟨S2048x8x128, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S2048x8x128, .f32⟩
  | .local _ .vmem, ⟨4, _⟩ => ⟨S2048x8x128, .f32⟩
  | .local _ .vmem, ⟨5, _⟩ => ⟨S1x512x1024, .f32⟩
  | .local _ .vmem, ⟨6, _⟩ => ⟨S512x1024, .f32⟩
  | .local _ .vmem, ⟨7, _⟩ => ⟨S31x16x1024, .f32⟩
  | _, _ => ⟨S1x512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_110 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v187 : BitVec 32 := Scalar.subi v2 c0_i32_110
  let c32_i32_111 : BitVec 32 := 32#32
  let v188 : BitVec 32 := Scalar.addi v187 c32_i32_111
  let c32_i32_112 : BitVec 32 := 32#32
  let c0_i32_113 : BitVec 32 := 0#32
  let v189 : BitVec 1 := Scalar.cmpi .eq c32_i32_112 c0_i32_113
  let c1_i32_114 : BitVec 32 := 1#32
  let v190 : BitVec 32 := Scalar.select v189 c1_i32_114 c32_i32_112
  let v191 : BitVec 32 := Scalar.remsi v188 v190
  let c0_i32_116 : BitVec 32 := 0#32
  let v193 : BitVec 1 := Scalar.cmpi .slt v191 c0_i32_116
  let c0_i32_117 : BitVec 32 := 0#32
  let v194 : BitVec 1 := Scalar.cmpi .slt v190 c0_i32_117
  let v195 : BitVec 1 := Scalar.xori v193 v194
  let c0_i32_115 : BitVec 32 := 0#32
  let v192 : BitVec 1 := Scalar.cmpi .ne v191 c0_i32_115
  let v196 : BitVec 1 := Scalar.andi v195 v192
  let v197 : BitVec 32 := Scalar.addi v191 v190
  let v198 : BitVec 32 := Scalar.select v196 v197 v191
  let c16_i32 : BitVec 32 := 16#32
  let v199 : BitVec 32 := Scalar.muli v198 c16_i32
  let c0_i32_125 : BitVec 32 := 0#32
  ![v199.toNat, 0]
def k0_dev3 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v200 : BitVec 32 := Scalar.muli v25 c1_i32_121
  let v201 : BitVec 32 := Scalar.addi c0_i32_122 v200
  v201.toNat
def k0_off2 (d0 : Dev nD) (c0_i32_141 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v221 : BitVec 32 := Scalar.subi v2 c0_i32_141
  let c1_i32_142 : BitVec 32 := 1#32
  let v222 : BitVec 32 := Scalar.subi v221 c1_i32_142
  let c32_i32_143 : BitVec 32 := 32#32
  let v223 : BitVec 32 := Scalar.addi v222 c32_i32_143
  let c32_i32_144 : BitVec 32 := 32#32
  let c0_i32_145 : BitVec 32 := 0#32
  let v224 : BitVec 1 := Scalar.cmpi .eq c32_i32_144 c0_i32_145
  let c1_i32_146 : BitVec 32 := 1#32
  let v225 : BitVec 32 := Scalar.select v224 c1_i32_146 c32_i32_144
  let v226 : BitVec 32 := Scalar.remsi v223 v225
  let c0_i32_148 : BitVec 32 := 0#32
  let v228 : BitVec 1 := Scalar.cmpi .slt v226 c0_i32_148
  let c0_i32_149 : BitVec 32 := 0#32
  let v229 : BitVec 1 := Scalar.cmpi .slt v225 c0_i32_149
  let v230 : BitVec 1 := Scalar.xori v228 v229
  let c0_i32_147 : BitVec 32 := 0#32
  let v227 : BitVec 1 := Scalar.cmpi .ne v226 c0_i32_147
  let v231 : BitVec 1 := Scalar.andi v230 v227
  let v232 : BitVec 32 := Scalar.addi v226 v225
  let v233 : BitVec 32 := Scalar.select v231 v232 v226
  let c16_i32_150 : BitVec 32 := 16#32
  let v234 : BitVec 32 := Scalar.muli v233 c16_i32_150
  let v235 : Index := Scalar.indexCast v234
  let c0_151 : Index := 0#32
  ![v235.toNat, 0]
def k0_dev4 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_168 : BitVec 32 := 1#32
  let v257 : BitVec 32 := Scalar.muli v25 c1_i32_168
  let v258 : BitVec 32 := Scalar.addi c0_i32_169 v257
  v258.toNat
def k0_dev5 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_215 : BitVec 32 := 1#32
  let v314 : BitVec 32 := Scalar.muli v25 c1_i32_215
  let v315 : BitVec 32 := Scalar.addi c0_i32_216 v314
  v315.toNat
def k0_dev6 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_261 : BitVec 32 := 1#32
  let v371 : BitVec 32 := Scalar.muli v25 c1_i32_261
  let v372 : BitVec 32 := Scalar.addi c0_i32_262 v371
  v372.toNat
def k0_dev7 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_307 : BitVec 32 := 1#32
  let v428 : BitVec 32 := Scalar.muli v25 c1_i32_307
  let v429 : BitVec 32 := Scalar.addi c0_i32_308 v428
  v429.toNat
def k0_dev8 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_353 : BitVec 32 := 1#32
  let v485 : BitVec 32 := Scalar.muli v25 c1_i32_353
  let v486 : BitVec 32 := Scalar.addi c0_i32_354 v485
  v486.toNat
def k0_dev9 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_399 : BitVec 32 := 1#32
  let v542 : BitVec 32 := Scalar.muli v25 c1_i32_399
  let v543 : BitVec 32 := Scalar.addi c0_i32_400 v542
  v543.toNat
def k0_dev10 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_445 : BitVec 32 := 1#32
  let v599 : BitVec 32 := Scalar.muli v25 c1_i32_445
  let v600 : BitVec 32 := Scalar.addi c0_i32_446 v599
  v600.toNat
def k0_dev11 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_491 : BitVec 32 := 1#32
  let v656 : BitVec 32 := Scalar.muli v25 c1_i32_491
  let v657 : BitVec 32 := Scalar.addi c0_i32_492 v656
  v657.toNat
def k0_dev12 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_536 : BitVec 32 := 1#32
  let v713 : BitVec 32 := Scalar.muli v25 c1_i32_536
  let v714 : BitVec 32 := Scalar.addi c0_i32_537 v713
  v714.toNat
def k0_dev13 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_581 : BitVec 32 := 1#32
  let v770 : BitVec 32 := Scalar.muli v25 c1_i32_581
  let v771 : BitVec 32 := Scalar.addi c0_i32_582 v770
  v771.toNat
def k0_dev14 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_626 : BitVec 32 := 1#32
  let v827 : BitVec 32 := Scalar.muli v25 c1_i32_626
  let v828 : BitVec 32 := Scalar.addi c0_i32_627 v827
  v828.toNat
def k0_dev15 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_671 : BitVec 32 := 1#32
  let v884 : BitVec 32 := Scalar.muli v25 c1_i32_671
  let v885 : BitVec 32 := Scalar.addi c0_i32_672 v884
  v885.toNat
def k0_dev16 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_716 : BitVec 32 := 1#32
  let v941 : BitVec 32 := Scalar.muli v25 c1_i32_716
  let v942 : BitVec 32 := Scalar.addi c0_i32_717 v941
  v942.toNat
def k0_dev17 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_761 : BitVec 32 := 1#32
  let v998 : BitVec 32 := Scalar.muli v25 c1_i32_761
  let v999 : BitVec 32 := Scalar.addi c0_i32_762 v998
  v999.toNat
def k0_dev18 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_806 : BitVec 32 := 1#32
  let v1055 : BitVec 32 := Scalar.muli v25 c1_i32_806
  let v1056 : BitVec 32 := Scalar.addi c0_i32_807 v1055
  v1056.toNat
def k0_dev19 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_852 : BitVec 32 := 1#32
  let v1112 : BitVec 32 := Scalar.muli v25 c1_i32_852
  let v1113 : BitVec 32 := Scalar.addi c0_i32_853 v1112
  v1113.toNat
def k0_dev20 (d0 : Dev nD) : Nat :=
  let c0_i32_898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_897 : BitVec 32 := 1#32
  let v1169 : BitVec 32 := Scalar.muli v25 c1_i32_897
  let v1170 : BitVec 32 := Scalar.addi c0_i32_898 v1169
  v1170.toNat
def k0_dev21 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_942 : BitVec 32 := 1#32
  let v1226 : BitVec 32 := Scalar.muli v25 c1_i32_942
  let v1227 : BitVec 32 := Scalar.addi c0_i32_943 v1226
  v1227.toNat
def k0_dev22 (d0 : Dev nD) : Nat :=
  let c0_i32_988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_987 : BitVec 32 := 1#32
  let v1283 : BitVec 32 := Scalar.muli v25 c1_i32_987
  let v1284 : BitVec 32 := Scalar.addi c0_i32_988 v1283
  v1284.toNat
def k0_dev23 (d0 : Dev nD) : Nat :=
  let c0_i32_1033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1032 : BitVec 32 := 1#32
  let v1340 : BitVec 32 := Scalar.muli v25 c1_i32_1032
  let v1341 : BitVec 32 := Scalar.addi c0_i32_1033 v1340
  v1341.toNat
def k0_dev24 (d0 : Dev nD) : Nat :=
  let c0_i32_1078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1077 : BitVec 32 := 1#32
  let v1397 : BitVec 32 := Scalar.muli v25 c1_i32_1077
  let v1398 : BitVec 32 := Scalar.addi c0_i32_1078 v1397
  v1398.toNat
def k0_dev25 (d0 : Dev nD) : Nat :=
  let c0_i32_1123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1122 : BitVec 32 := 1#32
  let v1454 : BitVec 32 := Scalar.muli v25 c1_i32_1122
  let v1455 : BitVec 32 := Scalar.addi c0_i32_1123 v1454
  v1455.toNat
def k0_dev26 (d0 : Dev nD) : Nat :=
  let c0_i32_1168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1167 : BitVec 32 := 1#32
  let v1511 : BitVec 32 := Scalar.muli v25 c1_i32_1167
  let v1512 : BitVec 32 := Scalar.addi c0_i32_1168 v1511
  v1512.toNat
def k0_dev27 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1212 : BitVec 32 := 1#32
  let v1568 : BitVec 32 := Scalar.muli v25 c1_i32_1212
  let v1569 : BitVec 32 := Scalar.addi c0_i32_1213 v1568
  v1569.toNat
def k0_dev28 (d0 : Dev nD) : Nat :=
  let c0_i32_1258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1257 : BitVec 32 := 1#32
  let v1625 : BitVec 32 := Scalar.muli v25 c1_i32_1257
  let v1626 : BitVec 32 := Scalar.addi c0_i32_1258 v1625
  v1626.toNat
def k0_dev29 (d0 : Dev nD) : Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1302 : BitVec 32 := 1#32
  let v1682 : BitVec 32 := Scalar.muli v25 c1_i32_1302
  let v1683 : BitVec 32 := Scalar.addi c0_i32_1303 v1682
  v1683.toNat
def k0_dev30 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1347 : BitVec 32 := 1#32
  let v1739 : BitVec 32 := Scalar.muli v25 c1_i32_1347
  let v1740 : BitVec 32 := Scalar.addi c0_i32_1348 v1739
  v1740.toNat
def k0_dev31 (d0 : Dev nD) : Nat :=
  let c0_i32_1393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1392 : BitVec 32 := 1#32
  let v1796 : BitVec 32 := Scalar.muli v25 c1_i32_1392
  let v1797 : BitVec 32 := Scalar.addi c0_i32_1393 v1796
  v1797.toNat
def k0_dev32 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1437 : BitVec 32 := 1#32
  let v1853 : BitVec 32 := Scalar.muli v25 c1_i32_1437
  let v1854 : BitVec 32 := Scalar.addi c0_i32_1438 v1853
  v1854.toNat
def k0_dev33 (d0 : Dev nD) : Nat :=
  let c0_i32_1483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1482 : BitVec 32 := 1#32
  let v1910 : BitVec 32 := Scalar.muli v25 c1_i32_1482
  let v1911 : BitVec 32 := Scalar.addi c0_i32_1483 v1910
  v1911.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1516 : BitVec 32 := 1#32
  let v1954 : BitVec 32 := Scalar.addi v2 c1_i32_1516
  let c32_i32_1517 : BitVec 32 := 32#32
  let c0_i32_1518 : BitVec 32 := 0#32
  let v1955 : BitVec 1 := Scalar.cmpi .eq c32_i32_1517 c0_i32_1518
  let c1_i32_1519 : BitVec 32 := 1#32
  let v1956 : BitVec 32 := Scalar.select v1955 c1_i32_1519 c32_i32_1517
  let v1957 : BitVec 32 := Scalar.remsi v1954 v1956
  let c0_i32_1521 : BitVec 32 := 0#32
  let v1959 : BitVec 1 := Scalar.cmpi .slt v1957 c0_i32_1521
  let c0_i32_1522 : BitVec 32 := 0#32
  let v1960 : BitVec 1 := Scalar.cmpi .slt v1956 c0_i32_1522
  let v1961 : BitVec 1 := Scalar.xori v1959 v1960
  let c0_i32_1520 : BitVec 32 := 0#32
  let v1958 : BitVec 1 := Scalar.cmpi .ne v1957 c0_i32_1520
  let v1962 : BitVec 1 := Scalar.andi v1961 v1958
  let v1963 : BitVec 32 := Scalar.addi v1957 v1956
  let v1964 : BitVec 32 := Scalar.select v1962 v1963 v1957
  let c16_i32_1523 : BitVec 32 := 16#32
  let v1965 : BitVec 32 := Scalar.muli v1964 c16_i32_1523
  let v1966 : Index := Scalar.indexCast v1965
  let c0_1524 : Index := 0#32
  ![v1966.toNat, 0]
def k0_off4 (d0 : Dev nD) : Fin 3 → Nat :=
  let c0_1525 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1516 : BitVec 32 := 1#32
  let v1954 : BitVec 32 := Scalar.addi v2 c1_i32_1516
  let c32_i32_1517 : BitVec 32 := 32#32
  let c0_i32_1518 : BitVec 32 := 0#32
  let v1955 : BitVec 1 := Scalar.cmpi .eq c32_i32_1517 c0_i32_1518
  let c1_i32_1519 : BitVec 32 := 1#32
  let v1956 : BitVec 32 := Scalar.select v1955 c1_i32_1519 c32_i32_1517
  let v1957 : BitVec 32 := Scalar.remsi v1954 v1956
  let c0_i32_1521 : BitVec 32 := 0#32
  let v1959 : BitVec 1 := Scalar.cmpi .slt v1957 c0_i32_1521
  let c0_i32_1522 : BitVec 32 := 0#32
  let v1960 : BitVec 1 := Scalar.cmpi .slt v1956 c0_i32_1522
  let v1961 : BitVec 1 := Scalar.xori v1959 v1960
  let c0_i32_1520 : BitVec 32 := 0#32
  let v1958 : BitVec 1 := Scalar.cmpi .ne v1957 c0_i32_1520
  let v1962 : BitVec 1 := Scalar.andi v1961 v1958
  let v1963 : BitVec 32 := Scalar.addi v1957 v1956
  let v1964 : BitVec 32 := Scalar.select v1962 v1963 v1957
  let c16_i32_1523 : BitVec 32 := 16#32
  let v1965 : BitVec 32 := Scalar.muli v1964 c16_i32_1523
  let v1968 : Index := Scalar.indexCast v1965
  let c0_1526 : Index := 0#32
  ![0, v1968.toNat, 0]
def k0_off5 (d0 : Dev nD) (c0_i32_1528 : BitVec 32) : Fin 3 → Nat :=
  let c0_i32_1538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1527 : BitVec 32 := 1#32
  let v1972 : BitVec 32 := Scalar.addi v2 c1_i32_1527
  let v1973 : BitVec 32 := Scalar.subi v1972 c0_i32_1528
  let c64_i32 : BitVec 32 := 64#32
  let v1974 : BitVec 32 := Scalar.addi v1973 c64_i32
  let c32_i32_1529 : BitVec 32 := 32#32
  let c0_i32_1530 : BitVec 32 := 0#32
  let v1975 : BitVec 1 := Scalar.cmpi .eq c32_i32_1529 c0_i32_1530
  let c1_i32_1531 : BitVec 32 := 1#32
  let v1976 : BitVec 32 := Scalar.select v1975 c1_i32_1531 c32_i32_1529
  let v1977 : BitVec 32 := Scalar.remsi v1974 v1976
  let c0_i32_1533 : BitVec 32 := 0#32
  let v1979 : BitVec 1 := Scalar.cmpi .slt v1977 c0_i32_1533
  let c0_i32_1534 : BitVec 32 := 0#32
  let v1980 : BitVec 1 := Scalar.cmpi .slt v1976 c0_i32_1534
  let v1981 : BitVec 1 := Scalar.xori v1979 v1980
  let c0_i32_1532 : BitVec 32 := 0#32
  let v1978 : BitVec 1 := Scalar.cmpi .ne v1977 c0_i32_1532
  let v1982 : BitVec 1 := Scalar.andi v1981 v1978
  let v1983 : BitVec 32 := Scalar.addi v1977 v1976
  let v1984 : BitVec 32 := Scalar.select v1982 v1983 v1977
  let c16_i32_1536 : BitVec 32 := 16#32
  let v1986 : BitVec 32 := Scalar.muli v1984 c16_i32_1536
  let c0_i32_1543 : BitVec 32 := 0#32
  ![0, v1986.toNat, 0]
def k0_dev34 (d0 : Dev nD) : Nat :=
  let c0_i32_1542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1541 : BitVec 32 := 1#32
  let v1987 : BitVec 32 := Scalar.muli v25 c1_i32_1541
  let v1988 : BitVec 32 := Scalar.addi c0_i32_1542 v1987
  v1988.toNat
def k0_dev35 (d0 : Dev nD) : Nat :=
  let c0_i32_1576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1575 : BitVec 32 := 1#32
  let v2026 : BitVec 32 := Scalar.muli v25 c1_i32_1575
  let v2027 : BitVec 32 := Scalar.addi c0_i32_1576 v2026
  v2027.toNat
def k0_dev36 (d0 : Dev nD) : Nat :=
  let c0_i32_1610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1609 : BitVec 32 := 1#32
  let v2065 : BitVec 32 := Scalar.muli v25 c1_i32_1609
  let v2066 : BitVec 32 := Scalar.addi c0_i32_1610 v2065
  v2066.toNat
def k0_dev37 (d0 : Dev nD) : Nat :=
  let c0_i32_1644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1643 : BitVec 32 := 1#32
  let v2104 : BitVec 32 := Scalar.muli v25 c1_i32_1643
  let v2105 : BitVec 32 := Scalar.addi c0_i32_1644 v2104
  v2105.toNat
def k0_dev38 (d0 : Dev nD) : Nat :=
  let c0_i32_1678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1677 : BitVec 32 := 1#32
  let v2143 : BitVec 32 := Scalar.muli v25 c1_i32_1677
  let v2144 : BitVec 32 := Scalar.addi c0_i32_1678 v2143
  v2144.toNat
def k0_dev39 (d0 : Dev nD) : Nat :=
  let c0_i32_1712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1711 : BitVec 32 := 1#32
  let v2182 : BitVec 32 := Scalar.muli v25 c1_i32_1711
  let v2183 : BitVec 32 := Scalar.addi c0_i32_1712 v2182
  v2183.toNat
def k0_dev40 (d0 : Dev nD) : Nat :=
  let c0_i32_1746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1745 : BitVec 32 := 1#32
  let v2221 : BitVec 32 := Scalar.muli v25 c1_i32_1745
  let v2222 : BitVec 32 := Scalar.addi c0_i32_1746 v2221
  v2222.toNat
def k0_dev41 (d0 : Dev nD) : Nat :=
  let c0_i32_1780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1779 : BitVec 32 := 1#32
  let v2260 : BitVec 32 := Scalar.muli v25 c1_i32_1779
  let v2261 : BitVec 32 := Scalar.addi c0_i32_1780 v2260
  v2261.toNat
def k0_dev42 (d0 : Dev nD) : Nat :=
  let c0_i32_1814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1813 : BitVec 32 := 1#32
  let v2299 : BitVec 32 := Scalar.muli v25 c1_i32_1813
  let v2300 : BitVec 32 := Scalar.addi c0_i32_1814 v2299
  v2300.toNat
def k0_dev43 (d0 : Dev nD) : Nat :=
  let c0_i32_1848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1847 : BitVec 32 := 1#32
  let v2338 : BitVec 32 := Scalar.muli v25 c1_i32_1847
  let v2339 : BitVec 32 := Scalar.addi c0_i32_1848 v2338
  v2339.toNat
def k0_dev44 (d0 : Dev nD) : Nat :=
  let c0_i32_1882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1881 : BitVec 32 := 1#32
  let v2377 : BitVec 32 := Scalar.muli v25 c1_i32_1881
  let v2378 : BitVec 32 := Scalar.addi c0_i32_1882 v2377
  v2378.toNat
def k0_dev45 (d0 : Dev nD) : Nat :=
  let c0_i32_1916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1915 : BitVec 32 := 1#32
  let v2416 : BitVec 32 := Scalar.muli v25 c1_i32_1915
  let v2417 : BitVec 32 := Scalar.addi c0_i32_1916 v2416
  v2417.toNat
def k0_dev46 (d0 : Dev nD) : Nat :=
  let c0_i32_1950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1949 : BitVec 32 := 1#32
  let v2455 : BitVec 32 := Scalar.muli v25 c1_i32_1949
  let v2456 : BitVec 32 := Scalar.addi c0_i32_1950 v2455
  v2456.toNat
def k0_dev47 (d0 : Dev nD) : Nat :=
  let c0_i32_1984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1983 : BitVec 32 := 1#32
  let v2494 : BitVec 32 := Scalar.muli v25 c1_i32_1983
  let v2495 : BitVec 32 := Scalar.addi c0_i32_1984 v2494
  v2495.toNat
def k0_dev48 (d0 : Dev nD) : Nat :=
  let c0_i32_2018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2017 : BitVec 32 := 1#32
  let v2533 : BitVec 32 := Scalar.muli v25 c1_i32_2017
  let v2534 : BitVec 32 := Scalar.addi c0_i32_2018 v2533
  v2534.toNat
def k0_dev49 (d0 : Dev nD) : Nat :=
  let c0_i32_2052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2051 : BitVec 32 := 1#32
  let v2572 : BitVec 32 := Scalar.muli v25 c1_i32_2051
  let v2573 : BitVec 32 := Scalar.addi c0_i32_2052 v2572
  v2573.toNat
def k0_dev50 (d0 : Dev nD) : Nat :=
  let c0_i32_2086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2085 : BitVec 32 := 1#32
  let v2611 : BitVec 32 := Scalar.muli v25 c1_i32_2085
  let v2612 : BitVec 32 := Scalar.addi c0_i32_2086 v2611
  v2612.toNat
def k0_dev51 (d0 : Dev nD) : Nat :=
  let c0_i32_2120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2119 : BitVec 32 := 1#32
  let v2650 : BitVec 32 := Scalar.muli v25 c1_i32_2119
  let v2651 : BitVec 32 := Scalar.addi c0_i32_2120 v2650
  v2651.toNat
def k0_dev52 (d0 : Dev nD) : Nat :=
  let c0_i32_2154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2153 : BitVec 32 := 1#32
  let v2689 : BitVec 32 := Scalar.muli v25 c1_i32_2153
  let v2690 : BitVec 32 := Scalar.addi c0_i32_2154 v2689
  v2690.toNat
def k0_dev53 (d0 : Dev nD) : Nat :=
  let c0_i32_2188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2187 : BitVec 32 := 1#32
  let v2728 : BitVec 32 := Scalar.muli v25 c1_i32_2187
  let v2729 : BitVec 32 := Scalar.addi c0_i32_2188 v2728
  v2729.toNat
def k0_dev54 (d0 : Dev nD) : Nat :=
  let c0_i32_2222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2221 : BitVec 32 := 1#32
  let v2767 : BitVec 32 := Scalar.muli v25 c1_i32_2221
  let v2768 : BitVec 32 := Scalar.addi c0_i32_2222 v2767
  v2768.toNat
def k0_dev55 (d0 : Dev nD) : Nat :=
  let c0_i32_2256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2255 : BitVec 32 := 1#32
  let v2806 : BitVec 32 := Scalar.muli v25 c1_i32_2255
  let v2807 : BitVec 32 := Scalar.addi c0_i32_2256 v2806
  v2807.toNat
def k0_dev56 (d0 : Dev nD) : Nat :=
  let c0_i32_2290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2289 : BitVec 32 := 1#32
  let v2845 : BitVec 32 := Scalar.muli v25 c1_i32_2289
  let v2846 : BitVec 32 := Scalar.addi c0_i32_2290 v2845
  v2846.toNat
def k0_dev57 (d0 : Dev nD) : Nat :=
  let c0_i32_2324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2323 : BitVec 32 := 1#32
  let v2884 : BitVec 32 := Scalar.muli v25 c1_i32_2323
  let v2885 : BitVec 32 := Scalar.addi c0_i32_2324 v2884
  v2885.toNat
def k0_dev58 (d0 : Dev nD) : Nat :=
  let c0_i32_2358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2357 : BitVec 32 := 1#32
  let v2923 : BitVec 32 := Scalar.muli v25 c1_i32_2357
  let v2924 : BitVec 32 := Scalar.addi c0_i32_2358 v2923
  v2924.toNat
def k0_dev59 (d0 : Dev nD) : Nat :=
  let c0_i32_2392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2391 : BitVec 32 := 1#32
  let v2962 : BitVec 32 := Scalar.muli v25 c1_i32_2391
  let v2963 : BitVec 32 := Scalar.addi c0_i32_2392 v2962
  v2963.toNat
def k0_dev60 (d0 : Dev nD) : Nat :=
  let c0_i32_2426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2425 : BitVec 32 := 1#32
  let v3001 : BitVec 32 := Scalar.muli v25 c1_i32_2425
  let v3002 : BitVec 32 := Scalar.addi c0_i32_2426 v3001
  v3002.toNat
def k0_dev61 (d0 : Dev nD) : Nat :=
  let c0_i32_2460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2459 : BitVec 32 := 1#32
  let v3040 : BitVec 32 := Scalar.muli v25 c1_i32_2459
  let v3041 : BitVec 32 := Scalar.addi c0_i32_2460 v3040
  v3041.toNat
def k0_dev62 (d0 : Dev nD) : Nat :=
  let c0_i32_2494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2493 : BitVec 32 := 1#32
  let v3079 : BitVec 32 := Scalar.muli v25 c1_i32_2493
  let v3080 : BitVec 32 := Scalar.addi c0_i32_2494 v3079
  v3080.toNat
def k0_dev63 (d0 : Dev nD) : Nat :=
  let c0_i32_2528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2527 : BitVec 32 := 1#32
  let v3118 : BitVec 32 := Scalar.muli v25 c1_i32_2527
  let v3119 : BitVec 32 := Scalar.addi c0_i32_2528 v3118
  v3119.toNat
def k0_dev64 (d0 : Dev nD) : Nat :=
  let c0_i32_2562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2561 : BitVec 32 := 1#32
  let v3157 : BitVec 32 := Scalar.muli v25 c1_i32_2561
  let v3158 : BitVec 32 := Scalar.addi c0_i32_2562 v3157
  v3158.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GatherReferenceIdeal.lean ====
abbrev S1x512x1024 : Shape := ⟨3, ![1, 512, 1024]⟩
abbrev S1024x32768 : Shape := ⟨2, ![1024, 32768]⟩
abbrev S32768x1024 : Shape := ⟨2, ![32768, 1024]⟩
abbrev S2048x256x128 : Shape := ⟨3, ![2048, 256, 128]⟩
abbrev S1x512x32768 : Shape := ⟨3, ![1, 512, 32768]⟩
abbrev S1x512x256x128 : Shape := ⟨4, ![1, 512, 256, 128]⟩
abbrev S256x2048x1x512 : Shape := ⟨4, ![256, 2048, 1, 512]⟩
abbrev S1x256x512x2048 : Shape := ⟨4, ![1, 256, 512, 2048]⟩
abbrev S_ : Shape := ⟨0, ![]⟩
abbrev S1x256x512 : Shape := ⟨3, ![1, 256, 512]⟩
abbrev S1x256x512x1 : Shape := ⟨4, ![1, 256, 512, 1]⟩
abbrev S256x128x1x512 : Shape := ⟨4, ![256, 128, 1, 512]⟩
abbrev S1x512x256x1 : Shape := ⟨4, ![1, 512, 256, 1]⟩

abbrev nBuf : Space → Nat
  | .hbm => 28
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x32768, .f32⟩
  | .hbm, ⟨2, _⟩ => ⟨S32768x1024, .f32⟩
  | .hbm, ⟨3, _⟩ => ⟨S2048x256x128, .f32⟩
  | .hbm, ⟨4, _⟩ => ⟨S2048x256x128, .f32⟩
  | .hbm, ⟨5, _⟩ => ⟨S1x512x32768, .f32⟩
  | .hbm, ⟨6, _⟩ => ⟨S1x512x256x128, .f32⟩
  | .hbm, ⟨7, _⟩ => ⟨S256x2048x1x512, .f32⟩
  | .hbm, ⟨8, _⟩ => ⟨S1x256x512x2048, .f32⟩
  | .hbm, ⟨9, _⟩ => ⟨S_, .f32⟩
  | .hbm, ⟨10, _⟩ => ⟨S1x256x512x2048, .f32⟩
  | .hbm, ⟨11, _⟩ => ⟨S1x256x512x2048, .f32⟩
  | .hbm, ⟨12, _⟩ => ⟨S_, .f32⟩
  | .hbm, ⟨13, _⟩ => ⟨S1x256x512, .f32⟩
  | .hbm, ⟨14, _⟩ => ⟨S1x256x512x1, .f32⟩
  | .hbm, ⟨15, _⟩ => ⟨S1x256x512x2048, .f32⟩
  | .hbm, ⟨16, _⟩ => ⟨S1x256x512x2048, .f32⟩
  | .hbm, ⟨17, _⟩ => ⟨S1x256x512x2048, .f32⟩
  | .hbm, ⟨18, _⟩ => ⟨S_, .f32⟩
  | .hbm, ⟨19, _⟩ => ⟨S1x256x512, .f32⟩
  | .hbm, ⟨20, _⟩ => ⟨S1x256x512x1, .f32⟩
  | .hbm, ⟨21, _⟩ => ⟨S256x128x1x512, .f32⟩
  | .hbm, ⟨22, _⟩ => ⟨S1x512x256x128, .f32⟩
  | .hbm, ⟨23, _⟩ => ⟨S1x512x256x1, .f32⟩
  | .hbm, ⟨24, _⟩ => ⟨S1x512x256x128, .f32⟩
  | .hbm, ⟨25, _⟩ => ⟨S1x512x256x128, .f32⟩
  | .hbm, ⟨26, _⟩ => ⟨S1x512x32768, .f32⟩
  | .hbm, ⟨27, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Body.lean ====
/-
# The kernel's body at a symbolic step

The printed body spells the thirty-one steps of the reduce-scatter out one after the other. Here the same
body is written with ONE step at a symbolic index `t : Fin 31` (`rsStep`), repeated by recursion, and the
eight heads of the attention with one function (`headVal`). `body_eq` says the printed body is this one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RS

open Cert.KernelIdeal Cert.KernelIdeal.Gen
open Idealize.ShloMosaic
open Idealize.ShloMosaic.TcCoe
open Idealize.SL.Sem

variable {F : FTy → Type} [FloatOps F]

/-! ## The buffers -/

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .vmem S2048x8x128 .f32 := Memref.whole cc0_stg3_0
abbrev vM : Memref sig .tc .vmem S2048x8x128 .f32 := Memref.whole cc0_stg4_0
abbrev oM : Memref sig .tc .vmem S1x16x1024 .f32 := Memref.whole cc0_stg5_0
/-- The accumulator: this device's partial product, one chunk of 16 rows per device. -/
abbrev accM : Memref sig .tc .vmem S512x1024 .f32 := Memref.whole cc0_scratch0
/-- The landing slots, one per step. -/
abbrev rsM : Memref sig .tc .vmem S31x16x1024 .f32 := Memref.whole cc0_scratch1

theorem inb_slot (t : Fin 31) : ∀ a, (![t.val, 0, 0] : Fin 3 → Nat) a + S1x16x1024.size a ≤ S31x16x1024.size a := by
  revert t; decide

theorem inb_sem (t : Fin 31) : ∀ a, (![t.val] : Fin 1 → Nat) a + S1.size a ≤ S31.size a := by
  revert t; decide

theorem inb_head (h : Fin 8) : ∀ a, (![0, h.val, 0] : Fin 3 → Nat) a + S2048x1x128.size a ≤ S2048x8x128.size a := by
  revert h; decide

theorem slices_head (h : Fin 8) : S512x1024.Slices ![0, 128 * h.val] S512x128 := by
  revert h; decide

/-- The accumulator's chunk sent at step `t`: number `d - t`. -/
abbrev sndM (d : Dev nD) (t : Fin 31) : Memref sig .tc .vmem S16x1024 .f32 :=
  accM.slice (Rect.unit (s := S512x1024) (k0_off1 d (BitVec.ofNat 32 t.val)) S16x1024.size (k0_off1_inb d t)) (fun _ => rfl)

/-- The landing slot of step `t`. -/
abbrev slotM (t : Fin 31) : Memref sig .tc .vmem S16x1024 .f32 :=
  (rsM.slice (Rect.unit (s := S31x16x1024) ![t.val, 0, 0] S1x16x1024.size (inb_slot t)) (fun _ => rfl)).squeeze S16x1024
    squeezes_S1x16x1024_S16x1024

/-- The semaphore a sender waits on at step `t`, and the one the receiver waits on. -/
abbrev sndS (t : Fin 31) : DmaSem sig :=
  ((cc0_scratch2.slice (Rect.unit (s := S31) ![t.val] S1.size (inb_sem t))).squeeze S_ squeezes_S1_S_).sem
abbrev rcvS (t : Fin 31) : DmaSem sig :=
  ((cc0_scratch3.slice (Rect.unit (s := S31) ![t.val] S1.size (inb_sem t))).squeeze S_ squeezes_S1_S_).sem

/-- The runtime's barrier semaphore. -/
abbrev barS : Sem sig := (SemArray.scalar (sig.barrier 0 rfl) : Sems sig S_).sem

/-- The rows of the accumulator added to at step `t`: chunk `d - t - 1`. -/
abbrev addR (d : Dev nD) (t : Fin 31) : Rect S512x1024 :=
  Rect.unit (s := S512x1024) (k0_off2 d (BitVec.ofNat 32 t.val)) S16x1024.size (k0_off2_inb d t)

/-- The landing slot of step `t` as it is loaded. -/
abbrev slotR (t : Fin 31) : Rect S31x16x1024 :=
  Rect.unit (s := S31x16x1024) ![t.val, 0, 0] S1x16x1024.size (inb_slot t)

/-- The device's own rows of the accumulator at the end: chunk `d + 1`. -/
abbrev ownR (d : Dev nD) : Rect S512x1024 :=
  Rect.unit (s := S512x1024) (k0_off3 d) S16x1024.size (k0_off3_inb d)

/-- Head `h` of the keys (and of the values). -/
abbrev headR (h : Fin 8) : Rect S2048x8x128 :=
  Rect.unit (s := S2048x8x128) ![0, h.val, 0] S2048x1x128.size (inb_head h)

/-! ## The values -/

/-- The device's queries. -/
def qVal (x : Vec F S1x512x1024 .f32) (wq : Vec F S1024x1024 .f32) : FVec F S512x1024 .f32 :=
  matmul dot_S512x1024_S1024x1024_S512x1024_1_0_0_1_n_n none (shapeCast S512x1024 x shapeCasts_S1x512x1024_S512x1024)
    (shapeCast S1024x1024 wq shapeCasts_S1024x1024_S1024x1024) (constant S512x1024 .f32 0x00000000#32)

/-- The scaled scores of head `h`. -/
def scoreVal (q : FVec F S512x1024 .f32) (h : Fin 8) (k : Vec F S2048x1x128 .f32) : FVec F S512x2048 .f32 :=
  mulf (matmul dot_S512x128_S2048x128_S512x2048_1_1_0_0_n_n none
      (extractStridedSlice S512x128 ![0, 128 * h.val] q (slices_head h)) (shapeCast S2048x128 k shapeCasts_S2048x1x128_S2048x128)
      (constant S512x2048 .f32 0x00000000#32))
    (broadcast S512x2048 (Scalar.ofBits .f32 0x3DB504F3#32))

/-- The exponentials of scores less their row's maximum. -/
def expVal (s : FVec F S512x2048 .f32) : FVec F S512x2048 .f32 :=
  exp (subf s (broadcastTo S512x2048
    (shapeCast S512x1 (multiReduction .maximumf [1] S512 s 0xFF800000#32 reduces_S512x2048_S512 (.inl rfl) rfl) shapeCasts_S512_S512x1)
    broadcasts_S512x1_S512x2048))

/-- One head's output. -/
def headVal (q : FVec F S512x1024 .f32) (h : Fin 8) (k v : Vec F S2048x1x128 .f32) : FVec F S512x128 .f32 :=
  divf (matmul dot_S512x2048_S2048x128_S512x128_1_0_0_1_n_n none (expVal (scoreVal q h k))
      (shapeCast S2048x128 v shapeCasts_S2048x1x128_S2048x128) (constant S512x128 .f32 0x00000000#32))
    (broadcastTo S512x128
      (shapeCast S512x1 (multiReduction .add [1] S512 (expVal (scoreVal q h k)) 0x00000000#32 reduces_S512x2048_S512 (.inl rfl) rfl) shapeCasts_S512_S512x1)
      broadcasts_S512x1_S512x128)

/-- The eight heads side by side, times the device's rows of the output weights. -/
def projVal (hd : Fin 8 → FVec F S512x128 .f32) (wo : Vec F S1024x1024 .f32) : FVec F S512x1024 .f32 :=
  shapeCast S512x1024
    (matmul dot_S512x1024_S1024x1024_S512x1024_1_0_0_1_n_n none
      (concatenate S512x1024 1 [⟨S512x128, hd 0⟩, ⟨S512x128, hd 1⟩, ⟨S512x128, hd 2⟩, ⟨S512x128, hd 3⟩, ⟨S512x128, hd 4⟩,
        ⟨S512x128, hd 5⟩, ⟨S512x128, hd 6⟩, ⟨S512x128, hd 7⟩]
        concatenates_S512x128_S512x128_S512x128_S512x128_S512x128_S512x128_S512x128_S512x128_S512x1024_d1)
      (shapeCast S1024x1024 wo shapeCasts_S1024x1024_S1024x1024) (constant S512x1024 .f32 0x00000000#32))
    shapeCasts_S512x1024_S512x1024

/-- One step's sum: the device's own chunk plus what arrived. -/
def addVal (a : Vec F S16x1024 .f32) (b : Vec F S1x16x1024 .f32) : FVec F S16x1024 .f32 :=
  shapeCast S16x1024 (addf a (shapeCast S16x1024 b shapeCasts_S1x16x1024_S16x1024)) shapeCasts_S16x1024_S16x1024

/-- The own chunk as the result's block. -/
def outVal (a : Vec F S16x1024 .f32) : FVec F S1x16x1024 .f32 :=
  shapeCast S1x16x1024 a shapeCasts_S16x1024_S1x16x1024

/-! ## The program -/

abbrev Body (F : FTy → Type) [FloatOps F] := Prog (TpuEff nD τ sig (Elt F) Λ₀ .tc) PUnit

/-- One step of the reduce-scatter: send chunk `d - t` to the right, wait for the send and for the left
    neighbour's arrival, add what arrived to chunk `d - t - 1`. -/
def rsStep (d : Dev nD) (t : Fin 31) (K : Body F) : Body F :=
  .op (.enqueueDma (sndM d t) (.remote (Dev.tc (⟨k0_dev3 d, k0_dev3_lt d⟩ : Dev nD)) (slotM t) (.dma (sndS t))) (.dma (rcvS t))
    (View.wordExact_bits rfl) ((View.wordExact_bits rfl).reshape _ _) ⟨⟨rfl, Or.inl rfl⟩, trivial⟩) fun _ =>
  .op (.waitDma2 (sndS t) (slotM t) (sndM d t) ((View.wordExact_bits rfl).reshape _ _) (View.wordExact_bits rfl)) fun _ =>
  .op (.waitDma2 (rcvS t) (sndM d t) (slotM t) (View.wordExact_bits rfl) ((View.wordExact_bits rfl).reshape _ _)) fun _ =>
  .op (.load accM (addR d t).toLoadRect (View.loadsAt_vmem h_S16x1024)) fun a =>
  .op (.load rsM (slotR t).toLoadRect (View.loadsAt_vmem h_S1x16x1024)) fun b =>
  .op (.load accM (addR d t).toLoadRect (View.loadsAt_vmem h_S16x1024)) fun _ =>
  .op (.store accM (addR d t) (addVal a b) Finset.univ (View.stores_vmem_bits_univ h_S16x1024 rfl) (.inl rfl)) fun _ => K

/-- The last `k` steps. -/
def rsFrom (d : Dev nD) (K : Body F) : (k : ℕ) → k ≤ 31 → Body F
  | 0, _ => K
  | k + 1, h => rsStep d ⟨30 - k, by omega⟩ (rsFrom d K k (by omega))

/-- The end: the device's own chunk goes into the result's block. -/
def epilogue (d : Dev nD) : Body F :=
  .op (.load accM (ownR d).toLoadRect (View.loadsAt_vmem h_S16x1024)) fun a =>
  .op (.load oM (Rect.unit (s := S1x16x1024) ![0, 0, 0] S1x16x1024.size inb_S1x16x1024_S1x16x1024_0_0_0).toLoadRect
    (View.loadsAt_vmem h_S1x16x1024)) fun _ =>
  .op (.store oM (Rect.unit (s := S1x16x1024) ![0, 0, 0] S1x16x1024.size inb_S1x16x1024_S1x16x1024_0_0_0) (outVal a) Finset.univ
    (View.stores_vmem_bits_univ h_S1x16x1024 rfl) (.inl rfl)) fun _ => .ret ⟨⟩

/-- Read head `h` of the keys and of the values. -/
def readHead (h : Fin 8) (K : Vec F S2048x1x128 .f32 → Vec F S2048x1x128 .f32 → Body F) : Body F :=
  .op (.load kM (headR h).toLoadRect (View.loadsAt_vmem h_S2048x1x128)) fun k =>
  .op (.load vM (headR h).toLoadRect (View.loadsAt_vmem h_S2048x1x128)) fun v => K k v

/-- The attention: read everything, store the partial product into the accumulator. -/
def attention (K : Body F) : Body F :=
  .op (.load xM (Rect.unit (s := S1x512x1024) ![0, 0, 0] S1x512x1024.size inb_S1x512x1024_S1x512x1024_0_0_0).toLoadRect
    (View.loadsAt_vmem h_S1x512x1024)) fun x =>
  .op (.load wqM (Rect.unit (s := S1024x1024) ![0, 0] S1024x1024.size inb_S1024x1024_S1024x1024_0_0).toLoadRect
    (View.loadsAt_vmem h_S1024x1024)) fun wq =>
  readHead 0 fun k0 v0 => readHead 1 fun k1 v1 => readHead 2 fun k2 v2 => readHead 3 fun k3 v3 =>
  readHead 4 fun k4 v4 => readHead 5 fun k5 v5 => readHead 6 fun k6 v6 => readHead 7 fun k7 v7 =>
  .op (.load woM (Rect.unit (s := S1024x1024) ![0, 0] S1024x1024.size inb_S1024x1024_S1024x1024_0_0).toLoadRect
    (View.loadsAt_vmem h_S1024x1024)) fun wo =>
  .op (.load accM (Rect.unit (s := S512x1024) ![0, 0] S512x1024.size inb_S512x1024_S512x1024_0_0).toLoadRect
    (View.loadsAt_vmem h_S512x1024)) fun _ =>
  .op (.store accM (Rect.unit (s := S512x1024) ![0, 0] S512x1024.size inb_S512x1024_S512x1024_0_0)
    (projVal (fun h => headVal (qVal x wq) h (![k0, k1, k2, k3, k4, k5, k6, k7] h) (![v0, v1, v2, v3, v4, v5, v6, v7] h)) wo) Finset.univ
    (View.stores_vmem_bits_univ h_S512x1024 rfl) (.inl rfl)) fun _ => K

/-- The body: the handshake with both neighbours, the attention, the reduce-scatter, the result. -/
def bodyS : Body F :=
  .op .deviceId fun d =>
  .op (.semSignal ((⟨k0_dev1 d, k0_dev1_lt d⟩ : Dev nD), .tc) barS 1) fun _ =>
  .op (.semSignal ((⟨k0_dev2 d, k0_dev2_lt d⟩ : Dev nD), .tc) barS 1) fun _ =>
  .op (.semWait barS 2) fun _ =>
  attention (rsFrom d (epilogue d) 31 (Nat.le_refl 31))

set_option maxRecDepth 65536 in
theorem body_eq :
    cc0_body (F := F) xM (Memref.isWhole_whole _) wqM (Memref.isWhole_whole _) woM (Memref.isWhole_whole _) kM (Memref.isWhole_whole _)
      vM (Memref.isWhole_whole _) oM (Memref.isWhole_whole _) accM (Memref.isWhole_whole _) rsM (Memref.isWhole_whole _)
      cc0_scratch2 cc0_scratch3 cc0_scratch4 cc0_scratch5 = bodyS := by
  rfl

end Cert.RS
-- ==== Proof.Proto.lean ====
/-
# The protocol between the devices

Cells of a device: its barrier cell, and for each of the kernel's four arrays of thirty-one DMA semaphores one
cell per entry (array 0 the reduce-scatter's sends, array 1 its arrivals; arrays 2 and 3 are not used by this
part of the kernel and have no duty).

One round. A barrier cell has two duties of one unit: the left neighbour's (`false`, nothing handed over) and
the right neighbour's (`true`: that neighbour's thirty-one landing slots). The send cell of step `t` gives the
sender its accumulator chunk back; the arrival cell of step `t` gives the receiver its slot `t`, holding what
the left neighbour's accumulator held in the chunk it sent.
-/
module

public import proofs.«01_k».proof.Proof.Body
public import proofs.«01_k».proof.Proof.Gen.KernelIdeal.Points
public import Idealize.ShloMosaic.Lib.Ring

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The ring -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide

def ring : Dev nD ≃ Dev nD := ⟨nxt, prv, prv_nxt, nxt_prv⟩

/-! ## The cells -/

/-- A device's cells: the barrier, and entry `t` of semaphore array `j`. -/
abbrev CK : Type := Unit ⊕ (Fin 4 × Fin 31)

set_option backward.proofsInPublic true in
/-- Entry `t` of array `j` among the DMA semaphores. -/
def dsem (j : Fin 4) (t : Fin 31) : DmaSem sig := ⟨6 + 31 * j.val + t.val, by have := j.isLt; have := t.isLt; show _ < 130; omega⟩

theorem sndS_eq (t : Fin 31) : sndS t = dsem 0 t := by revert t; decide
theorem rcvS_eq (t : Fin 31) : rcvS t = dsem 1 t := by revert t; decide

abbrev osem (jt : Fin 4 × Fin 31) : SemLoc sig := .dma (dsem jt.1 jt.2)
abbrev csem : CK → SemLoc sig
  | .inl _ => .reg barS
  | .inr jt => osem jt
abbrev kcell (ck : Dev nD × CK) : GSem nD τ sig := ((ck.1 : Thread nD τ), csem ck.2)

abbrev barCell (c : Dev nD) : GSem nD τ sig := ((c : Thread nD τ), .reg barS)
abbrev dCell (c : Dev nD) (j : Fin 4) (t : Fin 31) : GSem nD τ sig := ((c : Thread nD τ), .dma (dsem j t))

set_option backward.proofsInPublic true in
/-- Which cell a semaphore is. -/
def cls : SemLoc sig → Option CK
  | .reg s => if s = barS then some (.inl ()) else none
  | .dma q => if h : 6 ≤ q.val ∧ q.val < 130 then
      some (.inr (⟨(q.val - 6) / 31, by omega⟩, ⟨(q.val - 6) % 31, Nat.mod_lt _ (by decide)⟩)) else none

theorem cls_bar : cls (.reg barS) = some (.inl ()) := by dsimp only [cls]; exact if_pos rfl
theorem cls_d (j : Fin 4) (t : Fin 31) : cls (.dma (dsem j t)) = some (.inr (j, t)) := by
  have hj := j.isLt; have ht := t.isLt
  have h : 6 ≤ (dsem j t).val ∧ (dsem j t).val < 130 := by simp only [dsem]; omega
  dsimp only [cls]
  rw [dif_pos h]
  congr 3
  · apply Fin.ext; simp only [dsem]; omega
  · apply Fin.ext; simp only [dsem]; omega
theorem cls_csem (k : CK) : cls (csem k) = some k := by
  rcases k with ⟨⟩ | ⟨j, t⟩
  · exact cls_bar
  · exact cls_d j t

theorem csem_injective : Function.Injective csem := fun k k' h => by
  have := congrArg cls h; rw [cls_csem, cls_csem] at this; exact Option.some.inj this

/-- One transfer's credit. -/
abbrev N : ℕ := (slotM 0 : Memref sig .tc .vmem S16x1024 .f32).view.dmaCredit
theorem N_pos : 0 < N := View.dmaCredit_pos _ (by decide)

/-! ## Contents -/

section Contents
variable (c : Dev nD)

/-- The staged operands: this device's `x`, query weights, output weights, keys and values. -/
def xstg : (cc0_stg0_0 : Ref sig .tc).ty.Contents (Elt F) := (win0_0.blk (0 : Fin 1)).view.read (Elt F) (m ((c : Thread nD τ).loc main_arg0))
def wqstg : (cc0_stg1_0 : Ref sig .tc).ty.Contents (Elt F) := (win0_1.blk (0 : Fin 1)).view.read (Elt F) (m ((c : Thread nD τ).loc main_arg1))
def wostg : (cc0_stg2_0 : Ref sig .tc).ty.Contents (Elt F) := (win0_2.blk (0 : Fin 1)).view.read (Elt F) (m ((c : Thread nD τ).loc main_arg2))
def kstg : (cc0_stg3_0 : Ref sig .tc).ty.Contents (Elt F) := (win0_3.blk (0 : Fin 1)).view.read (Elt F) (m ((c : Thread nD τ).loc main_arg3))
def vstg : (cc0_stg4_0 : Ref sig .tc).ty.Contents (Elt F) := (win0_4.blk (0 : Fin 1)).view.read (Elt F) (m ((c : Thread nD τ).loc main_arg4))

/-- One head read out of the keys or the values. -/
def headOf (f : (cc0_stg3_0 : Ref sig .tc).ty.Contents (Elt F)) (h : Fin 8) : Vec F S2048x1x128 .f32 :=
  kM.view.readAt (Elt F) (headR h).toLoadRect f

/-- The partial product of five operands: the eight heads' attention times the rows of the output weights. -/
def accIn (x : Vec F S1x512x1024 .f32) (wq wo : Vec F S1024x1024 .f32) (k v : Vec F S2048x8x128 .f32) : Vec F S512x1024 .f32 :=
  projVal (fun h => headVal (qVal x wq) h (headOf k h) (headOf v h)) wo

/-- The device's partial product. -/
def acc0 : (cc0_scratch0 : Ref sig .tc).ty.Contents (Elt F) := accIn (xstg m c) (wqstg m c) (wostg m c) (kstg m c) (vstg m c)

end Contents

/-- What a step leaves in the chunk it adds to. -/
def stepVal (a w : Vec F S16x1024 .f32) : FVec F S16x1024 .f32 := shapeCast S16x1024 (addf a w) shapeCasts_S16x1024_S16x1024

/-- The accumulator after step `t`, `w` having arrived. -/
def accStep (c : Dev nD) (t : Fin 31) (f : (cc0_scratch0 : Ref sig .tc).ty.Contents (Elt F)) (w : Vec F S16x1024 .f32) :
    (cc0_scratch0 : Ref sig .tc).ty.Contents (Elt F) :=
  (accM.access (addR c t) : View sig .tc _ _ _).write (Elt F) f (stepVal (accM.view.readAt (Elt F) (addR c t).toLoadRect f) w) Finset.univ

/-- The accumulators before step `k` from the partial products `A` (all of them, since each step reads the left
    neighbour's). -/
def accOf (A : Dev nD → Vec F S512x1024 .f32) : ℕ → Dev nD → Vec F S512x1024 .f32
  | 0, c => A c
  | k + 1, c => if h : k < 31 then accStep c ⟨k, h⟩ (accOf A k c) ((sndM (prv c) ⟨k, h⟩).view.read (Elt F) (accOf A k (prv c))) else accOf A k c

/-- What arrives at device `c` in step `t`. -/
def arrivalOf (A : Dev nD → Vec F S512x1024 .f32) (c : Dev nD) (t : Fin 31) : Vec F S16x1024 .f32 :=
  (sndM (prv c) t).view.read (Elt F) (accOf A t.val (prv c))

theorem accOf_succ (A : Dev nD → Vec F S512x1024 .f32) (t : Fin 31) (c : Dev nD) :
    accOf A (t.val + 1) c = accStep c t (accOf A t.val c) (arrivalOf A c t) := by
  rw [accOf]; exact dif_pos t.isLt

/-- The accumulators and the arrivals from the launch memory. -/
abbrev accAt (k : ℕ) (c : Dev nD) : (cc0_scratch0 : Ref sig .tc).ty.Contents (Elt F) := accOf (acc0 m) k c
abbrev arrival (c : Dev nD) (t : Fin 31) : Vec F S16x1024 .f32 := arrivalOf (acc0 m) c t

/-- The sum a step stores is `stepVal` of the chunk and what arrived. -/
theorem addVal_landed (t : Fin 31) (a : Vec F S16x1024 .f32) (fd : (cc0_scratch1 : Ref sig .tc).ty.Contents (Elt F)) (w : Vec F S16x1024 .f32) :
    addVal a (rsM.view.readAt (Elt F) (slotR t).toLoadRect ((slotM t).view.write (Elt F) fd w Finset.univ)) = stepVal a w := by
  have h : shapeCast S16x1024 (rsM.view.readAt (Elt F) (slotR t).toLoadRect ((slotM t).view.write (Elt F) fd w Finset.univ)) shapeCasts_S1x16x1024_S16x1024 = w :=
    (View.read_write_univ (v := (slotM t).view) fd w)
  unfold addVal stepVal
  rw [h]

/-! ## What is held -/

def slotPts (c : Dev nD) (t : Fin 31) (f : Buf (Elt F) ((slotM t).view.loc (c : Thread nD τ))) : sProp 𝕄 :=
  (slotM t).view.loc (c : Thread nD τ) ↦[(slotM t).view.set]{fullShare} f
def sndPts (c : Dev nD) (t : Fin 31) (f : Buf (Elt F) ((sndM c t).view.loc (c : Thread nD τ))) : sProp 𝕄 :=
  (sndM c t).view.loc (c : Thread nD τ) ↦[(sndM c t).view.set]{fullShare} f
def slotsAny (c : Dev nD) : sProp 𝕄 := bigSep Finset.univ fun t : Fin 31 => iprop(∃ f, slotPts c t f)
def sendPay (c : Dev nD) (t : Fin 31) : sProp 𝕄 := sndPts c t (accAt m t.val c)
def recvPay (c : Dev nD) (t : Fin 31) : sProp 𝕄 :=
  iprop(∃ fd, slotPts c t ((slotM t).view.write (Elt F) fd (arrival m c t) Finset.univ))

/-! ## The schedule -/

set_option backward.proofsInPublic true in
def rd : Rounds.Schedule (GSem nD τ sig) Bool 𝕄 where
  duties g r := if r = 0 ∧ g.1.2 = .tc then
      (match cls g.2 with
        | none => ∅
        | some (.inl _) => Finset.univ
        | some (.inr jt) => if jt.1.val < 2 then {false} else ∅)
    else ∅
  unitless _ := False
  amount g _ _ := match cls g.2 with
    | some (.inr _) => N
    | _ => 1
  payload g _ d := match cls g.2 with
    | none => iprop(emp)
    | some (.inl _) => if d then slotsAny (nxt g.1.1) else iprop(emp)
    | some (.inr jt) => if jt.1.val = 0 then sendPay m g.1.1 jt.2 else if jt.1.val = 1 then recvPay m g.1.1 jt.2 else iprop(emp)
  amount_pos g _ _ _ := by
    split
    · exact N_pos
    · exact Nat.one_pos

instance slotPts_storable (c : Dev nD) (t f) : BI.Storable (upEmb : UEmb _ 𝕄) (slotPts (F := F) c t f) := by unfold slotPts; infer_instance
instance sndPts_storable (c : Dev nD) (t f) : BI.Storable (upEmb : UEmb _ 𝕄) (sndPts (F := F) c t f) := by unfold sndPts; infer_instance

instance rd_payload_storable (g : GSem nD τ sig) (r : ℕ) (d : Bool) : BI.Storable (upEmb : UEmb _ 𝕄) ((rd (F := F) m).payload g r d) := by
  dsimp only [rd]
  unfold slotsAny sendPay recvPay
  (repeat' split) <;> infer_instance

section Sched
variable (c : Dev nD) (t : Fin 31) (d : Bool)

theorem duties_bar : (rd (F := F) m).duties (barCell c) 0 = Finset.univ := by
  dsimp only [rd]; rw [if_pos ⟨rfl, rfl⟩, cls_bar]
theorem duties_snd : (rd (F := F) m).duties (dCell c 0 t) 0 = {false} := by
  dsimp only [rd]; rw [if_pos ⟨rfl, rfl⟩, cls_d]; exact if_pos Nat.two_pos
theorem duties_rcv : (rd (F := F) m).duties (dCell c 1 t) 0 = {false} := by
  dsimp only [rd]; rw [if_pos ⟨rfl, rfl⟩, cls_d]; exact if_pos Nat.one_lt_two
theorem duties_idle (j : Fin 4) (hj : 2 ≤ j.val) (r : ℕ) : (rd (F := F) m).duties (dCell c j t) r = ∅ := by
  dsimp only [rd]
  split
  · rw [cls_d]; exact if_neg (by simpa using hj)
  · rfl
theorem duties_later (g : GSem nD τ sig) : ∀ r, 1 ≤ r → (rd (F := F) m).duties g r = ∅ :=
  fun r hr => by dsimp only [rd]; rw [if_neg fun h => by omega]

theorem amount_bar : (rd (F := F) m).amount (barCell c) 0 d = 1 := by dsimp only [rd]; rw [cls_bar]
theorem amount_d (j : Fin 4) : (rd (F := F) m).amount (dCell c j t) 0 d = N := by dsimp only [rd]; rw [cls_d]

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_snd : (rd (F := F) m).expect (dCell c 0 t) 0 = N := by
  unfold Schedule.expect Schedule.amountOf; rw [duties_snd, Finset.sum_singleton, amount_d]
theorem expect_rcv : (rd (F := F) m).expect (dCell c 1 t) 0 = N := by
  unfold Schedule.expect Schedule.amountOf; rw [duties_rcv, Finset.sum_singleton, amount_d]

theorem payload_bar_true : (rd (F := F) m).payload (barCell c) 0 true = slotsAny (nxt c) := by
  dsimp only [rd]; rw [cls_bar]; exact if_pos rfl
theorem payload_bar_false : (rd (F := F) m).payload (barCell c) 0 false = iprop(emp) := by
  dsimp only [rd]; rw [cls_bar]; exact if_neg Bool.false_ne_true
theorem payload_snd : (rd (F := F) m).payload (dCell c 0 t) 0 d = sendPay m c t := by
  dsimp only [rd]; rw [cls_d]; exact if_pos rfl
theorem payload_rcv : (rd (F := F) m).payload (dCell c 1 t) 0 d = recvPay m c t := by
  dsimp only [rd]; rw [cls_d]; exact (if_neg Nat.one_ne_zero).trans (if_pos rfl)

theorem rest_bar : bigSep ((rd (F := F) m).duties (barCell c) 0 \ ∅) (fun d => (rd (F := F) m).payload (barCell c) 0 d)
    = iprop(emp ∗ slotsAny (nxt c)) := by
  rw [Finset.sdiff_empty, duties_bar, bigSep_univ_eq_bigSepL [false, true] (by decide) (by decide), bigSepL_cons_cons, bigSepL_singleton,
    payload_bar_false, payload_bar_true]
  rfl
theorem rest_snd : bigSep ((rd (F := F) m).duties (dCell c 0 t) 0 \ ∅) (fun d => (rd (F := F) m).payload (dCell c 0 t) 0 d) = sendPay m c t := by
  rw [Finset.sdiff_empty, duties_snd, bigSep_singleton, payload_snd]
theorem rest_rcv : bigSep ((rd (F := F) m).duties (dCell c 1 t) 0 \ ∅) (fun d => (rd (F := F) m).payload (dCell c 1 t) 0 d) = recvPay m c t := by
  rw [Finset.sdiff_empty, duties_rcv, bigSep_singleton, payload_rcv]

end Sched

/-! ## What a device owes; the levels -/

/-- The `j`-th last step. -/
abbrev stp (k : ℕ) (h : k + 1 ≤ 31) : Fin 31 := ⟨30 - k, by omega⟩

/-- With `k` steps to go: one transfer's credit to the right neighbour's arrival cell of each. -/
def owedFrom (c : Dev nD) : (k : ℕ) → k ≤ 31 → CellTallies nD τ sig Unit
  | 0, _ => 0
  | k + 1, h => owedFrom c k (by omega) + tallyAt (dCell (nxt c) 1 (stp k h)) () N

def O₂ (c : Dev nD) : CellTallies nD τ sig Unit := owedFrom c 31 (Nat.le_refl 31)
def O₁ (c : Dev nD) : CellTallies nD τ sig Unit := O₂ c + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier cells at 1, the arrival cell of step `t` at `2 + t`, everything else at 0. -/
def lv (g : GSem nD τ sig) (_ : Unit) : ℕ := match cls g.2 with
  | some (.inl _) => 1
  | some (.inr jt) => if jt.1.val = 1 then 2 + jt.2.val else 0
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [cls_bar]
theorem lv_rcv (c : Dev nD) (t : Fin 31) : lv (dCell c 1 t) () = 2 + t.val := by unfold lv; rw [cls_d]; exact if_pos rfl
theorem lv_snd (c : Dev nD) (t : Fin 31) : lv (dCell c 0 t) () = 0 := by unfold lv; rw [cls_d]; exact if_neg Nat.zero_ne_one

theorem tallyAt_pos {g g' : GSem nD τ sig} {n : ℕ} {u : Unit} (h : 0 < tallyAt (Ix := Unit) g () n g' u) : g' = g := by
  rw [tallyAt_apply] at h
  by_contra hn
  rw [if_neg (fun h' => hn h'.1)] at h
  exact Nat.lt_irrefl 0 h

/-- What is owed with `k` steps to go is owed to arrival cells of those steps. -/
theorem owedFrom_pos {c : Dev nD} {g : GSem nD τ sig} {u : Unit} : ∀ (k : ℕ) (hk : k ≤ 31), 0 < owedFrom c k hk g u →
    ∃ t : Fin 31, 31 - k ≤ t.val ∧ g = dCell (nxt c) 1 t
  | 0, _, h => absurd h (Nat.lt_irrefl 0)
  | k + 1, hk, h => by
      rw [owedFrom, Pi.add_apply, Finsupp.add_apply] at h
      rcases Nat.eq_zero_or_pos (owedFrom c k (by omega) g u) with h0 | h0
      · rw [h0, Nat.zero_add] at h
        exact ⟨stp k hk, by simp only [stp]; omega, tallyAt_pos h⟩
      · obtain ⟨t, h1, h2⟩ := owedFrom_pos k _ h0
        exact ⟨t, by omega, h2⟩

theorem O₀_pos {c : Dev nD} {g : GSem nD τ sig} {u : Unit} (h : 0 < O₀ c g u) :
    (∃ t : Fin 31, g = dCell (nxt c) 1 t) ∨ ∃ d, g = barCell d := by
  unfold O₀ O₁ at h
  rw [Pi.add_apply, Finsupp.add_apply, Pi.add_apply, Finsupp.add_apply] at h
  rcases Nat.eq_zero_or_pos (O₂ c g u) with h0 | h0
  · rcases Nat.eq_zero_or_pos (tallyAt (Ix := Unit) (barCell (nxt c)) () 1 g u) with h1 | h1
    · rw [h0, h1] at h; exact .inr ⟨_, tallyAt_pos (by simpa using h)⟩
    · exact .inr ⟨_, tallyAt_pos h1⟩
  · obtain ⟨t, -, h2⟩ := owedFrom_pos 31 (Nat.le_refl 31) h0
    exact .inl ⟨t, h2⟩

/-- A wait at level `n` of the device's own is allowed while only higher cells are owed. -/
theorem mayWait_of {c : Dev nD} {sm : SemLoc sig} {O : CellTallies nD τ sig Unit} (n : ℕ) (hn : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- The wait of level `n` with `k` steps to go. -/
theorem mayWait_from {c : Dev nD} {sm : SemLoc sig} (k : ℕ) (hk : k ≤ 31) (hn : lv ((c : Thread nD τ), sm) () + k < 33) :
    (levAts L lv : sProp 𝕄) ⊢ MayWait (c : Thread nD τ) sm () (owedFrom c k hk) :=
  mayWait_of (lv ((c : Thread nD τ), sm) ()) (Nat.le_refl _) fun g u hg => by
    obtain ⟨t, h1, rfl⟩ := owedFrom_pos k hk hg
    exact ⟨rfl, by rw [lv_rcv]; omega⟩

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  have h0 : lv ((c : Thread nD τ), .dma q) () = 0 := by
    unfold lv
    rw [show cls (.dma q) = none from dif_neg fun h => by omega]
  rcases hO with rfl | rfl
  · refine mayWait_of 0 (Nat.le_of_eq h0) fun g u hg => ?_
    rcases O₀_pos hg with ⟨t, rfl⟩ | ⟨d, rfl⟩
    · exact ⟨rfl, by rw [lv_rcv]; omega⟩
    · exact ⟨rfl, by rw [lv_bar]; decide⟩
  · rw [MayWait_zero]; iintro -; iempintro

end Cert.RS
-- ==== Proof.Step.lean ====
/-
# One step of the reduce-scatter, and all of them

`wp_rsStep` runs the symbolic step once; `wp_rsFrom` repeats it by induction on how many are left.
-/
module

public import proofs.«01_k».proof.Proof.Proto

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device may use: all cells' invariants, all marks of round 0 -/

def records (K : Dev nD × CK → ℕ) : sProp 𝕄 :=
  iprop((bigSep Finset.univ fun ck : Dev nD × CK => cellInv ER (rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (rd m) (K ck) (kcell ck) := by
  have h : (bigSep Finset.univ fun ck : Dev nD × CK => (cellInv ER (rd m) (K ck) (kcell ck) : sProp 𝕄)) ⊢ cellInv ER (rd m) (K ck) (kcell ck) :=
    bigSep_elim (Finset.mem_univ ck)
  unfold records
  iintro ⟨H, -⟩
  iapply h; iexact H
theorem reached_at (K : Dev nD × CK → ℕ) (ck : Dev nD × CK) : records m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records
  iintro ⟨-, H⟩
  iapply h; iexact H

/-! ## A step's holdings -/

/-- What step `t` starts from: the device's positions at the four cells of index `t`, the tokens of the two duties
    it pays, the credit of its arrival cell, and the right neighbour's slot. -/
def todo (c : Dev nD) (t : Fin 31) : sProp 𝕄 :=
  iprop((bigSep Finset.univ fun j : Fin 4 => atPos ER (dCell c j t) 0 ∅ 0)
    ∗ dutyTok ER (dCell c 0 t) 0 false ∗ dutyTok ER (dCell (nxt c) 1 t) 0 false
    ∗ cred (tallyAt (dCell c 1 t) () N) ∗ ∃ f, slotPts (nxt c) t f)

/-- What it leaves: the four cells' counters at zero, and the device's own slot. -/
def done (c : Dev nD) (t : Fin 31) : sProp 𝕄 :=
  iprop((bigSep Finset.univ fun j : Fin 4 => semVal (dCell c j t) 0) ∗ ∃ f, slotPts c t f)

/-- The accumulator at contents `f`. -/
def accPts (c : Dev nD) (f : (cc0_scratch0 : Ref sig .tc).ty.Contents (Elt F)) : sProp 𝕄 :=
  ((c : Thread nD τ).loc cc0_scratch0) ↦{fullShare} f

/-- A family over the last `k` steps. -/
def rest {M : Type} [URA M] (Φ : Fin 31 → sProp M) : (k : ℕ) → k ≤ 31 → sProp M
  | 0, _ => iprop(emp)
  | k + 1, h => iprop(Φ (stp k h) ∗ rest Φ k (by omega))

theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

theorem bigSep_insert' {M : Type} [URA M] {I : Type} [DecidableEq I] {s : Finset I} {i : I} (hi : i ∉ s) (Φ : I → sProp M) :
    bigSep (insert i s) Φ = iprop(Φ i ∗ bigSep s Φ) := BI.bigSep_insert hi

theorem rest_eq {M : Type} [URA M] (Φ : Fin 31 → sProp M) : ∀ (k : ℕ) (h : k ≤ 31), bigSep (Finset.univ.filter fun t : Fin 31 => 31 ≤ k + t.val) Φ = rest Φ k h
  | 0, _ => by
      rw [show (Finset.univ.filter fun t : Fin 31 => 31 ≤ 0 + t.val) = ∅ from Finset.filter_eq_empty_iff.mpr fun t _ => by omega]
      exact BI.bigSep_empty
  | k + 1, h => by
      rw [show (Finset.univ.filter fun t : Fin 31 => 31 ≤ k + 1 + t.val) = insert (stp k h) (Finset.univ.filter fun t : Fin 31 => 31 ≤ k + t.val) from by
          ext t
          simp only [Finset.mem_filter, Finset.mem_univ, true_and, Finset.mem_insert, Fin.ext_iff]
          omega,
        bigSep_insert' (by simp only [Finset.mem_filter, Finset.mem_univ, true_and]; omega), rest_eq Φ k (by omega), rest]

theorem rest_all {M : Type} [URA M] (Φ : Fin 31 → sProp M) : bigSep Finset.univ Φ = rest Φ 31 (Nat.le_refl 31) := by
  rw [← rest_eq Φ 31 (Nat.le_refl 31)]
  exact congrArg (fun s => bigSep s Φ) (Finset.filter_true_of_mem fun t _ => by omega).symm

/-! ## The transfer and the waits -/

section Step
variable (K : Dev nD × CK → ℕ) (c : Dev nD) (t : Fin 31)

theorem arrival_nxt : arrival m (nxt c) t = (sndM c t).view.read (Elt F) (accAt m t.val c) := by unfold arrival arrivalOf; rw [prv_nxt]

/-- The transfer of step `t` (its device and its two semaphores given up to equality). -/
theorem wp_send_step (n : Dev nD) (hn : n = nxt c) (q₀ q₁ : DmaSem sig) (h₀ : q₀ = dsem 0 t) (h₁ : q₁ = dsem 1 t)
    {hsc : (slotM t : Memref sig (Dev.tc n : Thread nD τ).2.kind .vmem S16x1024 .f32).view.ref.isScScratch = false}
    {hsrc : (sndM c t).view.WordExact} {hdst : (slotM t : Memref sig .tc .vmem S16x1024 .f32).view.WordExact}
    {hsem : DmaTarget.Typed .vmem (.dma q₁) (.remote (Dev.tc n : Thread nD τ) (slotM t) (.dma q₀) hsc)}
    {α : Type} {Q : α → sProp 𝕄} {k : PUnit → Prog (TpuEff nD τ sig (Elt F) Λ₀ .tc) α}
    (fn : Buf (Elt F) ((slotM t).view.loc (nxt c : Thread nD τ))) (O : CellTallies nD τ sig Unit) (W : Waits sig Unit) :
    iprop(cellInv ER (rd m) (K (c, .inr (0, t))) (dCell c 0 t) ∗ cellInv ER (rd m) (K (nxt c, .inr (1, t))) (dCell (nxt c) 1 t)
        ∗ sndPts c t (accAt m t.val c) ∗ slotPts (nxt c) t fn
        ∗ owes (c : Thread nD τ) (O + tallyAt (dCell (nxt c) 1 t) () N) W
        ∗ dutyTok ER (dCell c 0 t) 0 false ∗ reached ER (dCell c 0 t) 0
        ∗ dutyTok ER (dCell (nxt c) 1 t) 0 false ∗ reached ER (dCell (nxt c) 1 t) 0)
      ⊢ iprop(((cred (tallyAt (dCell c 0 t) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndM c t) (.remote (Dev.tc n : Thread nD τ) (slotM t) (.dma q₀) hsc) (.dma q₁) hsrc hdst hsem) k) Q) := by
  subst hn; subst h₀; subst h₁
  unfold sndPts slotPts
  exact Rounds.wp_send_pointsTo 𝒱₀ ER (rd m) (c : Thread nD τ) none (κ₁ := K (c, .inr (0, t))) (κ₂ := K (nxt c, .inr (1, t)))
    (r₁ := 0) (r₂ := 0) (d₁ := false) (d₂ := false) (fd := fn)
    (by rw [duties_snd]; exact Finset.mem_singleton_self _) (by rw [duties_rcv]; exact Finset.mem_singleton_self _)
    () () N rfl (amount_d m c t false 0) (amount_d m (nxt c) t false 1) O rfl (W := W)
    (by rw [payload_snd]; exact BI.Entails.refl _)
    (by rw [payload_rcv]; unfold recvPay slotPts; rw [arrival_nxt]; iintro H; iexists fn; iexact H)

/-- A wait for the whole of a send or an arrival cell's round. -/
theorem wp_wait_step (j : Fin 4) (q : DmaSem sig) (hq : q = dsem j t) (P : sProp 𝕄)
    (he : (rd (F := F) m).expect (dCell c j t) 0 = N)
    (hP : bigSep ((rd (F := F) m).duties (dCell c j t) 0 \ ∅) (fun d => (rd (F := F) m).payload (dCell c j t) 0 d) = P)
    {s₁ s₂ : Shape} {e₁ e₂ : EltTy} {src : Memref sig .tc .vmem s₁ e₁} {dst : Memref sig .tc .vmem s₂ e₂}
    {hsrc : src.view.WordExact} {hdst : dst.view.WordExact} (hdN : dst.view.dmaCredit = N)
    {α : Type} {Q : α → sProp 𝕄} {k : PUnit → Prog (TpuEff nD τ sig (Elt F) Λ₀ .tc) α}
    (O : CellTallies nD τ sig Unit) (W : Waits sig Unit) (hO : (levAts L lv : sProp 𝕄) ⊢ MayWait (c : Thread nD τ) (.dma (dsem j t)) () O) :
    iprop(cellInv ER (rd m) (K (c, .inr (j, t))) (dCell c j t) ∗ levAts L lv ∗ cred (tallyAt (dCell c j t) () N) ∗ owes (c : Thread nD τ) O W
        ∗ atPos ER (dCell c j t) 0 ∅ 0)
      ⊢ iprop(((owes (c : Thread nD τ) O (insert (SemLoc.dma (dsem j t), ()) W) ∗ semVal (dCell c j t) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  iintro ⟨#HI, Hlev, Hc, HO, Hat⟩ Hk
  iapply (Rounds.wp_wait_rest_token 𝒱₀ ER (rd m) (c : Thread nD τ) none (κ := K (c, .inr (j, t)))
      (wpE_waitDma2_eq 𝒱₀ (c : Thread nD τ) none Set.univ) (Set.mem_univ _) () (O := O) (W := W) (R := 0) (m := 0) (T := ∅)
      (by rw [Nat.zero_add, he]; exact hdN)) $$ [Hc HO Hat Hlev]
  · isplitr; · iexact HI
    isplitl [Hc]; · rw [hdN]; iexact Hc
    isplitl [HO]; · iexact HO
    isplitl [Hlev]; · iapply hO; iexact Hlev
    iexact Hat
  iintro ⟨HO, Hat, -, Hpay⟩
  ihave HP := (Entails.of_eq hP) $$ Hpay
  imod (Rounds.cell_close ER (rd m) (Set.mem_univ (K (c, .inr (j, t)))) (fun h => h) (R := 0 + 1) (duties_later m (dCell c j t))) $$ [Hat] with Hz
  · isplitr; · iexact HI
    iexact Hat
  iapply Hk
  isplitl [HO]; · iexact HO
  isplitl [Hz] <;> iassumption

/-- A cell nothing happens at closes from the start. -/
theorem idle_close (j : Fin 4) (hj : 2 ≤ j.val) :
    iprop(cellInv ER (rd m) (K (c, .inr (j, t))) (dCell c j t) ∗ atPos ER (dCell c j t) 0 ∅ 0) ⊢ (iprop(|={Set.univ}=> semVal (dCell c j t) 0) : sProp 𝕄) :=
  Rounds.cell_close ER (rd m) (Set.mem_univ (K (c, .inr (j, t)))) (fun h => h) (R := 0) fun r _ => duties_idle m c t j hj r

/-- The chunk sent, taken out of the accumulator. -/
theorem acc_split (f : (cc0_scratch0 : Ref sig .tc).ty.Contents (Elt F)) :
    accPts c f ⊣⊢ iprop(sndPts c t f ∗ ((c : Thread nD τ).loc cc0_scratch0) ↦[Finset.univ \ (sndM c t).view.set]{fullShare} f) :=
  pointsTo_split_subset (Finset.subset_univ _)

theorem addVal_landed' (a : Vec F S16x1024 .f32) (fd : (cc0_scratch1 : Ref sig .tc).ty.Contents (Elt F)) (w : Vec F S16x1024 .f32) :
    addVal a ((rsM.access (slotR t)).read (Elt F) ((slotM t).view.write (Elt F) fd w Finset.univ)) = stepVal a w :=
  addVal_landed t a fd w

theorem credit_snd : (sndM c t).view.dmaCredit = N := rfl
theorem credit_slot : (slotM t : Memref sig .tc .vmem S16x1024 .f32).view.dmaCredit = N := rfl

theorem slot_set : (slotM t).view.set = (rsM.access (slotR t)).set :=
  Memref.set_view_squeeze (rsM.slice (slotR t) (fun _ => rfl)) squeezes_S1x16x1024_S16x1024

set_option maxHeartbeats 400000 in
/-- ONE STEP. -/
theorem wp_rsStep (k : ℕ) (hk : k + 1 ≤ 31) (ht : t = stp k hk) (W : Waits sig Unit) (KP : Body F) (Q : PUnit → sProp 𝕄) :
    iprop(records m K ∗ levAts L lv ∗ todo c t ∗ accPts c (accAt m t.val c) ∗ owes (c : Thread nD τ) (owedFrom c (k + 1) hk) W
        ∗ (∀ W', (done c t ∗ accPts c (accAt m (t.val + 1) c) ∗ owes (c : Thread nD τ) (owedFrom c k (by omega)) W')
            -∗ wp frame (wpE (defs₀ (F := F)) 𝒱₀ (c : Thread nD τ) none) Set.univ KP Q))
      ⊢ wp frame (wpE (defs₀ (F := F)) 𝒱₀ (c : Thread nD τ) none) Set.univ (rsStep c t KP) Q := by
  unfold todo done rsStep
  rw [bigSep_fin4, bigSep_fin4]
  iintro ⟨#HR, #Hlev, ⟨⟨Ha0, Ha1, Ha2, Ha3⟩, Ht0, Ht1, Hc1, ⟨%fn, Hfn⟩⟩, Hacc, HO, Hk⟩
  ihave #HI0 := (inv_at m K (c, .inr (0, t))) $$ HR
  ihave #HI1 := (inv_at m K (c, .inr (1, t))) $$ HR
  ihave #HI2 := (inv_at m K (c, .inr (2, t))) $$ HR
  ihave #HI3 := (inv_at m K (c, .inr (3, t))) $$ HR
  ihave #HIN := (inv_at m K (nxt c, .inr (1, t))) $$ HR
  ihave #Hr0 := (reached_at m K (c, .inr (0, t))) $$ HR
  ihave #HrN := (reached_at m K (nxt c, .inr (1, t))) $$ HR
  ihave Hs := (acc_split c t _).1 $$ Hacc
  icases Hs with ⟨Hsnd, Hrem⟩
  iapply (wp_send_step m K c t _ (dev3_eq c) _ _ (sndS_eq t) (rcvS_eq t) fn (owedFrom c k (by omega)) W) $$ [Hsnd Hfn HO Ht0 Ht1]
  · isplitr; · iexact HI0
    isplitr; · iexact HIN
    isplitl [Hsnd]; · iexact Hsnd
    isplitl [Hfn]; · iexact Hfn
    isplitl [HO]; · subst ht; iexact HO
    isplitl [Ht0]; · iexact Ht0
    isplitr; · iexact Hr0
    isplitl [Ht1]; · iexact Ht1
    iexact HrN
  iintro ⟨Hc0, HO⟩
  iapply (wp_wait_step m K c t 0 (sndS t) (sndS_eq t) (sendPay m c t) (expect_snd m c t) (rest_snd m c t) (src := slotM t) (dst := sndM c t) (credit_snd c t) (owedFrom c k (by omega)) W
      (mayWait_from k (by omega) (by rw [lv_snd]; omega))) $$ [Hc0 HO Ha0]
  · isplitr; · iexact HI0
    isplitr; · iexact Hlev
    isplitl [Hc0]; · iexact Hc0
    isplitl [HO]; · iexact HO
    iexact Ha0
  iintro ⟨HO, Hz0, Hsnd⟩
  unfold sendPay
  ihave Hacc := (acc_split c t (accAt m t.val c)).2 $$ [Hsnd Hrem]
  · isplitl [Hsnd] <;> iassumption
  iapply (wp_wait_step m K c t 1 (rcvS t) (rcvS_eq t) (recvPay m c t) (expect_rcv m c t) (rest_rcv m c t) (src := sndM c t) (dst := slotM t) (credit_slot t) (owedFrom c k (by omega)) _
      (mayWait_from k (by omega) (by rw [lv_rcv, ht]; simp only [stp]; omega))) $$ [Hc1 HO Ha1]
  · isplitr; · iexact HI1
    isplitr; · iexact Hlev
    isplitl [Hc1]; · iexact Hc1
    isplitl [HO]; · iexact HO
    iexact Ha1
  iintro ⟨HO, Hz1, Hrcv⟩
  unfold recvPay
  icases Hrcv with ⟨%fd, Hslot⟩
  imod (idle_close m K c t 2 (Nat.le_refl 2)) $$ [Ha2] with Hz2
  · isplitr; · iexact HI2
    iexact Ha2
  imod (idle_close m K c t 3 (Nat.le_succ 2)) $$ [Ha3] with Hz3
  · isplitr; · iexact HI3
    iexact Ha3
  unfold accPts slotPts
  iapply (wp_load 𝒱₀ (c : Thread nD τ) none Set.univ (m := accM) (Finset.subset_univ _)) $$ Hacc; iintro Hacc
  iapply (wp_load_rect 𝒱₀ (c : Thread nD τ) none Set.univ (m := rsM) (r := slotR t) (Finset.subset_of_eq (slot_set t).symm)) $$ Hslot; iintro Hslot
  rw [addVal_landed']
  iapply (wp_load 𝒱₀ (c : Thread nD τ) none Set.univ (m := accM) (Finset.subset_univ _)) $$ Hacc; iintro Hacc
  iapply (wp_store 𝒱₀ (c : Thread nD τ) none Set.univ (m := accM) (r := addR c t) (Mk := Finset.univ) (Finset.subset_univ _)) $$ Hacc; iintro Hacc
  iapply Hk
  rw [show accAt m (t.val + 1) c = _ from accOf_succ (acc0 m) t c, accStep]
  isplitl [Hz0 Hz1 Hz2 Hz3 Hslot]
  · isplitl [Hz0 Hz1 Hz2 Hz3]
    · isplitl [Hz0]; · iexact Hz0
      isplitl [Hz1]; · iexact Hz1
      isplitl [Hz2] <;> iassumption
    iexists _; iexact Hslot
  isplitl [Hacc]; · iexact Hacc
  iexact HO

end Step

/-- ALL STEPS from `k` to go. -/
theorem wp_rsFrom (K : Dev nD × CK → ℕ) (c : Dev nD) (KP : Body F) (Q : PUnit → sProp 𝕄) : ∀ (k : ℕ) (hk : k ≤ 31) (W : Waits sig Unit),
    iprop(records m K ∗ levAts L lv ∗ rest (todo c) k hk ∗ accPts c (accAt m (31 - k) c) ∗ owes (c : Thread nD τ) (owedFrom c k hk) W
        ∗ (∀ W', (rest (done c) k hk ∗ accPts c (accAt m 31 c) ∗ owes (c : Thread nD τ) 0 W')
            -∗ wp frame (wpE (defs₀ (F := F)) 𝒱₀ (c : Thread nD τ) none) Set.univ KP Q))
      ⊢ wp frame (wpE (defs₀ (F := F)) 𝒱₀ (c : Thread nD τ) none) Set.univ (rsFrom c KP k hk) Q
  | 0, hk, W => by
      unfold rest rsFrom owedFrom
      iintro ⟨-, -, -, Hacc, HO, Hk⟩
      iapply Hk
      isplitr; · iempintro
      isplitl [Hacc]; · iexact Hacc
      iexact HO
  | k + 1, hk, W => by
      unfold rest rsFrom
      iintro ⟨#HR, #Hlev, ⟨Ht, Hrest⟩, Hacc, HO, Hk⟩
      iapply (wp_rsStep m K c (stp k hk) k hk rfl W (rsFrom c KP k (Nat.le_of_succ_le hk)) Q)
      isplitr; · iexact HR
      isplitr; · iexact Hlev
      isplitl [Ht]; · iexact Ht
      isplitl [Hacc]; · rw [show 31 - (k + 1) = (stp k hk).val from Nat.succ_sub_succ 30 k]; iexact Hacc
      isplitl [HO]; · iexact HO
      iintro %W' ⟨Hd, Hacc, HO⟩
      iapply (wp_rsFrom K c KP Q k (Nat.le_of_succ_le hk) W')
      isplitr; · iexact HR
      isplitr; · iexact Hlev
      isplitl [Hrest]; · iexact Hrest
      isplitl [Hacc]; · rw [show 31 - k = (stp k hk).val + 1 from Nat.succ_sub (Nat.le_of_succ_le_succ hk)]; iexact Hacc
      isplitl [HO]; · iexact HO
      iintro %W'' ⟨Hds, Hacc, HO⟩
      iapply Hk
      isplitl [Hd Hds]; · isplitl [Hd] <;> iassumption
      isplitl [Hacc]; · iexact Hacc
      iexact HO

end Cert.RS
-- ==== Proof.Run.lean ====
/-
# The body on one device

The body from its holdings at launch (`start` and the two scratch buffers) to what it leaves: the handshake with both
neighbours, the attention, the thirty-one steps (`wp_rsFrom`), the result.
-/
module

public import proofs.«01_k».proof.Proof.Step

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The landing buffer, whole and slot by slot -/

theorem slot_rect (t : Fin 31) : (slotM t).view.set = (slotR t).set := (slot_set t).trans (View.set_slice_whole cc0_scratch1 (slotR t))

theorem slots_disjoint (t t' : Fin 31) (h : t ≠ t') : Disjoint (slotR t).set (slotR t').set :=
  Ring.lead_disjoint (s := S31x16x1024) (0 : Fin 3) 1 (fun t : Fin 31 => ![t.val, 0, 0]) S1x16x1024.size inb_slot
    (fun b => (Nat.one_mul b.val).symm) rfl t t' h

theorem slots_cover : Finset.univ.biUnion (fun t : Fin 31 => (slotR t).set) = Finset.univ :=
  Ring.lead_cover (s := S31x16x1024) (0 : Fin 3) 1 (fun t : Fin 31 => ![t.val, 0, 0]) S1x16x1024.size inb_slot
    (fun b => (Nat.one_mul b.val).symm) (fun b a ha => by fin_cases a <;> first | rfl | exact absurd rfl ha) rfl
    (fun a ha => by fin_cases a <;> first | rfl | exact absurd rfl ha) rfl

/-- A slot's elements, as the slot's rectangle of the buffer. -/
theorem slotPts_eq (c : Dev nD) (t : Fin 31) (f : Buf (Elt F) ((c : Thread nD τ).loc cc0_scratch1)) :
    slotPts c t f = (((c : Thread nD τ).loc cc0_scratch1) ↦[(slotR t).set]{fullShare} f : sProp 𝕄) :=
  congrArg (fun S => (((c : Thread nD τ).loc cc0_scratch1) ↦[S]{fullShare} f : sProp 𝕄)) (slot_rect t)

theorem slots_split (c : Dev nD) (f : Buf (Elt F) ((c : Thread nD τ).loc cc0_scratch1)) :
    (((c : Thread nD τ).loc cc0_scratch1) ↦{fullShare} f : sProp 𝕄) ⊢ slotsAny c := by
  unfold slotsAny
  rw [Ring.pointsTo_blocks (ℓ := (c : Thread nD τ).loc cc0_scratch1) (fun t : Fin 31 => (slotR t).set) slots_disjoint slots_cover f]
  exact bigSep_mono fun t _ => show ((((c : Thread nD τ).loc cc0_scratch1) ↦[(slotR t).set]{fullShare} f : sProp 𝕄)) ⊢ iprop(∃ f, slotPts c t f) from by
    iintro H; iexists f; rw [slotPts_eq]; iexact H

theorem slots_join (c : Dev nD) (f₀ : Buf (Elt F) ((c : Thread nD τ).loc cc0_scratch1)) :
    slotsAny c ⊢ (iprop(∃ f, ((c : Thread nD τ).loc cc0_scratch1) ↦{fullShare} f) : sProp 𝕄) := by
  unfold slotsAny
  refine (bigSep_mono fun t _ => ?_).trans
    (Ring.pointsTo_blocks_join_exists (ℓ := (c : Thread nD τ).loc cc0_scratch1) (fun t : Fin 31 => (slotR t).set) slots_disjoint slots_cover f₀)
  show (iprop(∃ f, slotPts c t f) : sProp 𝕄) ⊢ iprop(∃ f, ((c : Thread nD τ).loc cc0_scratch1) ↦[(slotR t).set]{fullShare} f)
  iintro ⟨%f, H⟩; iexists f; rw [← slotPts_eq]; iexact H

/-! ## Holdings -/

/-- The result's block on device `c`. -/
def outAt (c : Dev nD) : (cc0_stg5_0 : Ref sig .tc).ty.Contents (Elt F) := outVal (accM.view.readAt (Elt F) (ownR c).toLoadRect (accAt m 31 c))

/-- A device's positions, and the tokens of the duties it pays. -/
def linear (c : Dev nD) : sProp 𝕄 :=
  iprop(atPos ER (barCell c) 0 ∅ 0 ∗ (bigSep Finset.univ fun t : Fin 31 => bigSep Finset.univ fun j : Fin 4 => atPos ER (dCell c j t) 0 ∅ 0)
    ∗ dutyTok ER (barCell (prv c)) 0 true ∗ dutyTok ER (barCell (nxt c)) 0 false
    ∗ (bigSep Finset.univ fun t : Fin 31 => dutyTok ER (dCell c 0 t) 0 false) ∗ bigSep Finset.univ fun t : Fin 31 => dutyTok ER (dCell (nxt c) 1 t) 0 false)

def ghost (K : Dev nD × CK → ℕ) (c : Dev nD) : sProp 𝕄 := iprop(records m K ∗ linear c)

def start (c : Dev nD) : sProp 𝕄 :=
  iprop((∃ K, ghost m K c) ∗ cred (tallyAt (barCell c) () 2) ∗ (bigSep Finset.univ fun t : Fin 31 => cred (tallyAt (dCell c 1 t) () N)) ∗ levAts L lv)

def scratch (c : Dev nD) : sProp 𝕄 := iprop((∃ f, accPts c f) ∗ ∃ f : Buf (Elt F) ((c : Thread nD τ).loc cc0_scratch1), ((c : Thread nD τ).loc cc0_scratch1) ↦{fullShare} f)

def Φ₀ (c : Dev nD) : sProp 𝕄 := iprop(start m c ∗ scratch c)

/-- After the body: the scratch buffers at some contents, every cell of the device at zero. -/
def Φ₁ (c : Dev nD) : sProp 𝕄 :=
  iprop(scratch c ∗ (bigSep Finset.univ fun t : Fin 31 => bigSep Finset.univ fun j : Fin 4 => semVal (dCell c j t) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wqstg m c
    | ⟨2, _⟩ => wostg m c
    | ⟨3, _⟩ => kstg m c
    | ⟨4, _⟩ => vstg m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The attention -/

theorem hz3 : (![0, 0, 0] : Fin 3 → Nat) = fun _ => 0 := funext fun a => by fin_cases a <;> rfl
theorem hz2 : (![0, 0] : Fin 2 → Nat) = fun _ => 0 := funext fun a => by fin_cases a <;> rfl

theorem read_x (f : (cc0_stg0_0 : Ref sig .tc).ty.Contents (Elt F)) :
    xM.view.readAt (Elt F) (Rect.unit (s := S1x512x1024) ![0, 0, 0] S1x512x1024.size inb_S1x512x1024_S1x512x1024_0_0_0).toLoadRect f = f :=
  Memref.readAt_unit_zero (Elt F) cc0_stg0_0 hz3 _ f
theorem read_wq (f : (cc0_stg1_0 : Ref sig .tc).ty.Contents (Elt F)) :
    wqM.view.readAt (Elt F) (Rect.unit (s := S1024x1024) ![0, 0] S1024x1024.size inb_S1024x1024_S1024x1024_0_0).toLoadRect f = f :=
  Memref.readAt_unit_zero (Elt F) cc0_stg1_0 hz2 _ f
theorem read_wo (f : (cc0_stg2_0 : Ref sig .tc).ty.Contents (Elt F)) :
    woM.view.readAt (Elt F) (Rect.unit (s := S1024x1024) ![0, 0] S1024x1024.size inb_S1024x1024_S1024x1024_0_0).toLoadRect f = f :=
  Memref.readAt_unit_zero (Elt F) cc0_stg2_0 hz2 _ f
theorem write_acc (f w : (cc0_scratch0 : Ref sig .tc).ty.Contents (Elt F)) :
    (accM.access (Rect.unit (s := S512x1024) ![0, 0] S512x1024.size inb_S512x1024_S512x1024_0_0) : View sig .tc _ _ _).write (Elt F) f w Finset.univ = w :=
  Memref.write_access_unit_zero_univ (Elt F) cc0_scratch0 hz2 _ f w
theorem write_out (f w : (cc0_stg5_0 : Ref sig .tc).ty.Contents (Elt F)) :
    (oM.access (Rect.unit (s := S1x16x1024) ![0, 0, 0] S1x16x1024.size inb_S1x16x1024_S1x16x1024_0_0_0) : View sig .tc _ _ _).write (Elt F) f w Finset.univ = w :=
  Memref.write_access_unit_zero_univ (Elt F) cc0_stg5_0 hz3 _ f w

abbrev at_ (c : Dev nD) (b : Ref sig .tc) (X : b.ty.Contents (Elt F)) : sProp 𝕄 := ((c : Thread nD τ).loc b) ↦{fullShare} X

section Attention
variable (c : Dev nD)

/-- Reading one head of the keys and of the values. -/
theorem wp_readHead (h : Fin 8) (fk : (cc0_stg3_0 : Ref sig .tc).ty.Contents (Elt F)) (fv : (cc0_stg4_0 : Ref sig .tc).ty.Contents (Elt F))
    (KP : Vec F S2048x1x128 .f32 → Vec F S2048x1x128 .f32 → Body F) (Q : PUnit → sProp 𝕄) :
    iprop(at_ c cc0_stg3_0 fk ∗ at_ c cc0_stg4_0 fv
        ∗ ((at_ c cc0_stg3_0 fk ∗ at_ c cc0_stg4_0 fv) -∗ wp frame (wpE (defs₀ (F := F)) 𝒱₀ (c : Thread nD τ) none) Set.univ (KP (headOf fk h) (headOf fv h)) Q))
      ⊢ wp frame (wpE (defs₀ (F := F)) 𝒱₀ (c : Thread nD τ) none) Set.univ (readHead h KP) Q := by
  unfold readHead at_
  iintro ⟨Hk, Hv, Hc⟩
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply Hc
  isplitl [Hk] <;> iassumption

theorem heads_eq (fx : Vec F S1x512x1024 .f32) (fq : Vec F S1024x1024 .f32) (fo : Vec F S1024x1024 .f32) (f g : Fin 8 → Vec F S2048x1x128 .f32) :
    projVal (fun h => headVal (qVal fx fq) h (![f 0, f 1, f 2, f 3, f 4, f 5, f 6, f 7] h) (![g 0, g 1, g 2, g 3, g 4, g 5, g 6, g 7] h)) fo
      = projVal (fun h => headVal (qVal fx fq) h (f h) (g h)) fo :=
  congrArg (fun z => projVal z fo) (funext fun h => by fin_cases h <;> rfl)

set_option maxHeartbeats 400000 in
theorem wp_attention (fa : (cc0_scratch0 : Ref sig .tc).ty.Contents (Elt F)) (KP : Body F) (Q : PUnit → sProp 𝕄) :
    iprop(at_ c cc0_stg0_0 (xstg m c) ∗ at_ c cc0_stg1_0 (wqstg m c) ∗ at_ c cc0_stg2_0 (wostg m c) ∗ at_ c cc0_stg3_0 (kstg m c) ∗ at_ c cc0_stg4_0 (vstg m c)
        ∗ accPts c fa
        ∗ ((at_ c cc0_stg0_0 (xstg m c) ∗ at_ c cc0_stg1_0 (wqstg m c) ∗ at_ c cc0_stg2_0 (wostg m c) ∗ at_ c cc0_stg3_0 (kstg m c) ∗ at_ c cc0_stg4_0 (vstg m c)
            ∗ accPts c (acc0 m c)) -∗ wp frame (wpE (defs₀ (F := F)) 𝒱₀ (c : Thread nD τ) none) Set.univ KP Q))
      ⊢ wp frame (wpE (defs₀ (F := F)) 𝒱₀ (c : Thread nD τ) none) Set.univ (attention KP) Q := by
  unfold attention
  iintro ⟨Hx, Hq, Ho, Hk, Hv, Ha, Hc⟩
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hq; iintro Hq
  rw [read_x, read_wq]
  iapply (wp_readHead c 0); isplitl [Hk]; · iexact Hk
  isplitl [Hv]; · iexact Hv
  iintro ⟨Hk, Hv⟩
  iapply (wp_readHead c 1); isplitl [Hk]; · iexact Hk
  isplitl [Hv]; · iexact Hv
  iintro ⟨Hk, Hv⟩
  iapply (wp_readHead c 2); isplitl [Hk]; · iexact Hk
  isplitl [Hv]; · iexact Hv
  iintro ⟨Hk, Hv⟩
  iapply (wp_readHead c 3); isplitl [Hk]; · iexact Hk
  isplitl [Hv]; · iexact Hv
  iintro ⟨Hk, Hv⟩
  iapply (wp_readHead c 4); isplitl [Hk]; · iexact Hk
  isplitl [Hv]; · iexact Hv
  iintro ⟨Hk, Hv⟩
  iapply (wp_readHead c 5); isplitl [Hk]; · iexact Hk
  isplitl [Hv]; · iexact Hv
  iintro ⟨Hk, Hv⟩
  iapply (wp_readHead c 6); isplitl [Hk]; · iexact Hk
  isplitl [Hv]; · iexact Hv
  iintro ⟨Hk, Hv⟩
  iapply (wp_readHead c 7); isplitl [Hk]; · iexact Hk
  isplitl [Hv]; · iexact Hv
  iintro ⟨Hk, Hv⟩
  iapply (wp_load 𝒱₀ (c : Thread nD τ) none Set.univ (m := woM) (Finset.subset_univ _)) $$ Ho; iintro Ho
  rw [read_wo, heads_eq (xstg m c) (wqstg m c) (wostg m c) (headOf (kstg m c)) (headOf (vstg m c))]
  unfold accPts
  iapply (wp_load 𝒱₀ (c : Thread nD τ) none Set.univ (m := accM) (Finset.subset_univ _)) $$ Ha; iintro Ha
  iapply (wp_store 𝒱₀ (c : Thread nD τ) none Set.univ (m := accM) (r := Rect.unit (s := S512x1024) ![0, 0] S512x1024.size inb_S512x1024_S512x1024_0_0) (Mk := Finset.univ) (Finset.subset_univ _)) $$ Ha; iintro Ha
  rw [write_acc]
  iapply Hc
  isplitl [Hx]; · iexact Hx
  isplitl [Hq]; · iexact Hq
  isplitl [Ho]; · iexact Ho
  isplitl [Hk]; · iexact Hk
  isplitl [Hv]; · iexact Hv
  unfold acc0 accIn
  iexact Ha

end Attention

/-! ## The body -/

section Body

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xstg m c) ∗ stg c cc0_stg1_0 (wqstg m c) ∗ stg c cc0_stg2_0 (wostg m c)
    ∗ stg c cc0_stg3_0 (kstg m c) ∗ stg c cc0_stg4_0 (vstg m c) ∗ stg c cc0_stg5_0 (outAt m c))

/-- What a device holds between the handshake and the first step, step by step. -/
theorem todo_intro (c : Dev nD) :
    iprop((bigSep Finset.univ fun t : Fin 31 => bigSep Finset.univ fun j : Fin 4 => atPos ER (dCell c j t) 0 ∅ 0)
        ∗ (bigSep Finset.univ fun t : Fin 31 => dutyTok ER (dCell c 0 t) 0 false) ∗ (bigSep Finset.univ fun t : Fin 31 => dutyTok ER (dCell (nxt c) 1 t) 0 false)
        ∗ (bigSep Finset.univ fun t : Fin 31 => cred (tallyAt (dCell c 1 t) () N)) ∗ slotsAny (nxt c))
      ⊢ (rest (todo c) 31 (Nat.le_refl 31) : sProp 𝕄) := by
  rw [← rest_all]
  unfold todo slotsAny
  rw [bigSep_sep', bigSep_sep', bigSep_sep', bigSep_sep']

theorem done_elim (c : Dev nD) :
    (rest (done c) 31 (Nat.le_refl 31) : sProp 𝕄)
      ⊢ iprop((bigSep Finset.univ fun t : Fin 31 => bigSep Finset.univ fun j : Fin 4 => semVal (dCell c j t) 0) ∗ slotsAny c) := by
  rw [← rest_all]
  unfold done slotsAny
  rw [bigSep_sep']

/-- The end of the body. -/
theorem wp_epilogue (c : Dev nD) (fa : (cc0_scratch0 : Ref sig .tc).ty.Contents (Elt F)) (fo : (cc0_stg5_0 : Ref sig .tc).ty.Contents (Elt F)) (Q : PUnit → sProp 𝕄) :
    iprop(accPts c fa ∗ at_ c cc0_stg5_0 fo
        ∗ ((accPts c fa ∗ at_ c cc0_stg5_0 (outVal (accM.view.readAt (Elt F) (ownR c).toLoadRect fa))) -∗ Q ⟨⟩))
      ⊢ wp frame (wpE (defs₀ (F := F)) 𝒱₀ (c : Thread nD τ) none) Set.univ (epilogue (F := F) c) Q := by
  unfold epilogue accPts at_
  iintro ⟨Ha, Ho, Hc⟩
  iapply (wp_load 𝒱₀ (c : Thread nD τ) none Set.univ (m := accM) (Finset.subset_univ _)) $$ Ha; iintro Ha
  iapply (wp_load 𝒱₀ (c : Thread nD τ) none Set.univ (m := oM) (Finset.subset_univ _)) $$ Ho; iintro Ho
  iapply (wp_store 𝒱₀ (c : Thread nD τ) none Set.univ (m := oM)
    (r := Rect.unit (s := S1x16x1024) ![0, 0, 0] S1x16x1024.size inb_S1x16x1024_S1x16x1024_0_0_0) (Mk := Finset.univ) (Finset.subset_univ _)) $$ Ho; iintro Ho
  rw [write_out, wp_ret]; imodintro
  iapply Hc
  isplitl [Ha] <;> iassumption

set_option maxHeartbeats 800000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ (bodyS (F := F)) Kt := by
  unfold bodyPre bodyS Φ₀ start ghost linear scratch
  simp only [wp_deviceId]
  iintro ⟨⟨⟨⟨⟨%K, #HR, HaB, HaD, HtP, HtN, Ht0, Ht1⟩, HcB, Hc1, #Hlev⟩, ⟨%fa, Ha⟩, ⟨%fr, Hrs⟩⟩, Ho,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have h0 : g0 = xstg m c := by rw [hg0]; unfold Dat.before; rw [if_pos (fetch0_0 t0_0)]; rfl
  have h1 : g1 = wqstg m c := by rw [hg1]; unfold Dat.before; rw [if_pos (fetch0_1 t0_0)]; rfl
  have h2 : g2 = wostg m c := by rw [hg2]; unfold Dat.before; rw [if_pos (fetch0_2 t0_0)]; rfl
  have h3 : g3 = kstg m c := by rw [hg3]; unfold Dat.before; rw [if_pos (fetch0_3 t0_0)]; rfl
  have h4 : g4 = vstg m c := by rw [hg4]; unfold Dat.before; rw [if_pos (fetch0_4 t0_0)]; rfl
  subst h0 h1 h2 h3 h4
  unfold Dat.owesAt Pipeline.owesWithin
  icases Ho with ⟨%W, %hW, HO⟩
  rw [show (dats m ρ 0 c).owed t0_0.castSucc = O₀ c from rfl]
  simp only [dev1_eq c, dev2_eq c]
  ihave #HIB := (inv_at m K (c, .inl ())) $$ HR
  ihave #HIP := (inv_at m K (prv c, .inl ())) $$ HR
  ihave #HIN := (inv_at m K (nxt c, .inl ())) $$ HR
  ihave #HrP := (reached_at m K (prv c, .inl ())) $$ HR
  ihave #HrN := (reached_at m K (nxt c, .inl ())) $$ HR
  -- to the left neighbour, handing over the device's own slots
  ihave Hsl := (slots_split c fr) $$ Hrs
  unfold O₀
  iapply (Rounds.wp_signal 𝒱₀ ER (rd m) (c : Thread nD τ) none (dst := (prv c : Thread nD τ)) (κ := K (prv c, .inl ()))
      (d := true) (by rw [duties_bar]; exact Finset.mem_univ _) ((amount_bar m (prv c) true).trans (by decide)) () (O₁ c) rfl)
    $$ [HO HtP Hsl]
  · isplitr; · iexact HIP
    isplitl [HO]; · iexact HO
    isplitl [HtP]; · iexact HtP
    isplitl [Hsl]; · rw [payload_bar_true, nxt_prv]; iexact Hsl
    iexact HrP
  iintro HO
  -- to the right neighbour
  unfold O₁
  iapply (Rounds.wp_signal 𝒱₀ ER (rd m) (c : Thread nD τ) none (dst := (nxt c : Thread nD τ)) (κ := K (nxt c, .inl ()))
      (d := false) (by rw [duties_bar]; exact Finset.mem_univ _) ((amount_bar m (nxt c) false).trans (by decide)) () (O₂ c) rfl)
    $$ [HO HtN]
  · isplitr; · iexact HIN
    isplitl [HO]; · iexact HO
    isplitl [HtN]; · iexact HtN
    isplitr; · rw [payload_bar_false]; iempintro
    iexact HrN
  iintro HO
  -- both have entered: the right neighbour's slots
  iapply (Rounds.wp_wait_rest_token 𝒱₀ ER (rd m) (c : Thread nD τ) none (κ := K (c, .inl ()))
      (wpE_semWait_eq 𝒱₀ (c : Thread nD τ) none Set.univ) (Set.mem_univ _) () (O := O₂ c) (W := W) (R := 0) (m := 0) (T := ∅)
      (by rw [expect_bar])) $$ [HcB HO HaB]
  · isplitr; · iexact HIB
    isplitl [HcB]; · iexact HcB
    isplitl [HO]; · iexact HO
    isplitr; · unfold O₂; iapply (mayWait_from (c := c) (sm := .reg barS) 31 (Nat.le_refl 31) (by rw [lv_bar]; decide)); iexact Hlev
    iexact HaB
  iintro ⟨HO, HaB, -, Hpay⟩
  ihave Hp := (Entails.of_eq (rest_bar m c)) $$ Hpay
  icases Hp with ⟨-, Hslots⟩
  imod (Rounds.cell_close ER (rd m) (Set.mem_univ (K (c, .inl ()))) (fun h => h) (R := 0 + 1) (duties_later m (barCell c))) $$ [HaB] with HzB
  · isplitr; · iexact HIB
    iexact HaB
  iapply (wp_attention m c fa)
  isplitl [H0]; · iexact H0
  isplitl [H1]; · iexact H1
  isplitl [H2]; · iexact H2
  isplitl [H3]; · iexact H3
  isplitl [H4]; · iexact H4
  isplitl [Ha]; · iexact Ha
  iintro ⟨H0, H1, H2, H3, H4, Ha⟩
  ihave Htodo := (todo_intro c) $$ [HaD Ht0 Ht1 Hc1 Hslots]
  · isplitl [HaD]; · iexact HaD
    isplitl [Ht0]; · iexact Ht0
    isplitl [Ht1]; · iexact Ht1
    isplitl [Hc1] <;> iassumption
  iapply (wp_rsFrom m K c (epilogue c) Kt 31 (Nat.le_refl 31) (insert (SemLoc.reg barS, ()) W))
  isplitr; · iexact HR
  isplitr; · iexact Hlev
  isplitl [Htodo]; · iexact Htodo
  isplitl [Ha]; · iexact Ha
  isplitl [HO]; · iexact HO
  iintro %W' ⟨Hd, Ha, HO⟩
  ihave Hd' := (done_elim c) $$ Hd
  icases Hd' with ⟨HzD, Hsl⟩
  ihave Hrs := (slots_join c fr) $$ Hsl
  iapply (wp_epilogue c _ g5)
  isplitl [Ha]; · iexact Ha
  isplitl [H5]; · iexact H5
  iintro ⟨Ha, H5⟩
  iapply Hk
  unfold bodyPost Φ₁ scratch Dat.owesAt Pipeline.owesWithin
  rw [show (dats m ρ 0 c).owed t0_0.succ = 0 from rfl]
  isplitl [Ha Hrs HzD HzB]
  · isplitl [Ha Hrs]
    · isplitl [Ha]; · iexists _; iexact Ha
      iexact Hrs
    isplitl [HzD] <;> iassumption
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  unfold outAt
  iexact H5

theorem body_run (c : Dev nD) : bodyPre m ρ c ⊢ wp frame (wpE (defs₀ (F := F)) 𝒱₀ c none) Set.univ (bodyS (F := F)) (fun _ => bodyPost m ρ c) := by
  iintro H
  iapply (sound_body m ρ c fun _ => bodyPost m ρ c)
  isplitl [H]; · iexact H
  iintro H; iexact H

set_option maxRecDepth 4000 in
/-- The launch theorem's obligation on the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  rw [show defs₀ (F := F) Proc.tc 0 (t0_0, cfg0.slots t0_0) = bodyS from body_eq,
    show (dats m ρ 0 c).Φ t0_0.castSucc = Φ₀ m c from rfl, show (dats m ρ 0 c).Φ t0_0.succ = Φ₁ c from rfl,
    show (dats m ρ 0 c).after 0 t0_0 = xstg m c from rfl, show (dats m ρ 0 c).after 1 t0_0 = wqstg m c from rfl,
    show (dats m ρ 0 c).after 2 t0_0 = wostg m c from rfl, show (dats m ρ 0 c).after 3 t0_0 = kstg m c from rfl,
    show (dats m ρ 0 c).after 4 t0_0 = vstg m c from rfl, show (dats m ρ 0 c).after 5 t0_0 = outAt m c from by dsimp only [dats]]
  have h := body_run m ρ c
  unfold bodyPre bodyPost stg at h
  convert h using 1

end Body

end Cert.RS
-- ==== Proof.LaunchRun.lean ====
/-
# The launch

The cells and tokens allocated and dealt around the ring, the credit each device starts from, and the run of the
whole program from any memory with zero counters, at any float values.
-/
module

public import proofs.«01_k».proof.Proof.Run
public import Idealize.ShloMosaic.Lib.Pipeline.CollectiveSegs

@[expose] public section

noncomputable section

namespace Cert.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of one device's own cells: its barrier's two, and one per send and per arrival. -/
abbrev TK : Type := Bool ⊕ (Fin 2 × Fin 31)
abbrev tokOf (ck : Dev nD × TK) : GSem nD τ sig × ℕ × Bool := match ck.2 with
  | .inl b => (barCell ck.1, 0, b)
  | .inr jt => (dCell ck.1 (Fin.castLE (by decide) jt.1) jt.2, 0, false)
theorem tokOf_injective : Function.Injective (tokOf : Dev nD × TK → GSem nD τ sig × ℕ × Bool) := by
  rintro ⟨c, k⟩ ⟨c', k'⟩ h
  have h1 : c = c' := by
    have := congrArg (fun x : GSem nD τ sig × ℕ × Bool => x.1.1.1) h
    rcases k with b | ⟨j, t⟩ <;> rcases k' with b' | ⟨j', t'⟩ <;> exact this
  have h2 := congrArg (fun x : GSem nD τ sig × ℕ × Bool => cls x.1.2) h
  have h3 := congrArg (fun x : GSem nD τ sig × ℕ × Bool => x.2.2) h
  subst h1
  rcases k with b | ⟨j, t⟩ <;> rcases k' with b' | ⟨j', t'⟩
  · have : b = b' := h3
    rw [this]
  · rw [show cls _ = some (.inl ()) from cls_bar, show cls _ = some (.inr (_, _)) from cls_d _ t'] at h2; cases h2
  · rw [show cls _ = some (.inr (_, _)) from cls_d _ t, show cls _ = some (.inl ()) from cls_bar] at h2; cases h2
  · rw [show cls _ = some (.inr (_, _)) from cls_d _ t, show cls _ = some (.inr (_, _)) from cls_d _ t'] at h2
    have h4 := Prod.mk.inj (Sum.inr.inj (Option.some.inj h2))
    have h5 : j = j' := Fin.castLE_injective (by decide) h4.1
    rw [h5, h4.2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (bigSep Finset.univ fun t : Fin 31 => dutyTok ER (dCell c 0 t) 0 false) ∗ bigSep Finset.univ fun t : Fin 31 => dutyTok ER (dCell c 1 t) 0 false)

def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m K c)

theorem bigSep_CK (Φ : CK → sProp 𝕄) :
    bigSep Finset.univ Φ = iprop(Φ (.inl ()) ∗ bigSep Finset.univ fun t : Fin 31 => bigSep Finset.univ fun j : Fin 4 => Φ (.inr (j, t))) := by
  rw [show bigSep Finset.univ Φ = iprop(bigSep Finset.univ (fun a => Φ (.inl a)) ∗ bigSep Finset.univ (fun b => Φ (.inr b))) from BI.bigSep_univ_sum Φ,
    show (bigSep Finset.univ fun a : Unit => Φ (.inl a)) = Φ (.inl ()) from bigSep_univ_eq_bigSepL [()] (by decide) (by decide) _,
    bigSep_univ_equiv (Equiv.prodComm (Fin 31) (Fin 4)) (fun b => Φ (.inr b)), bigSep_univ_prod]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [show ∀ Φ : TK → sProp 𝕄, bigSep Finset.univ Φ = iprop(bigSep Finset.univ (fun a => Φ (.inl a)) ∗ bigSep Finset.univ (fun b => Φ (.inr b))) from
      fun Φ => BI.bigSep_univ_sum Φ, bigSep_univ_eq_bigSepL [false, true] (by decide) (by decide), bigSep_univ_prod,
      bigSep_univ_eq_bigSepL [(0 : Fin 2), 1] (by decide) (by decide)]
    rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun t : Fin 31 => bigSep Finset.univ fun j : Fin 4 => semVal (dCell c j t) 0 := by
  unfold Pipeline.ownSems0
  rw [bigSep_univ_equiv (Equiv.prodComm (Fin 31) (Fin 4)) (fun k => semVal ((c.tc : Thread nD τ), osem k) 0), bigSep_univ_prod]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m) (kcell (c, k)) 0)
      ⊢ (|={Set.univ}=> bigSep Finset.univ fun k : CK => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens a device pays with. -/
def payToks (c : Dev nD) : sProp 𝕄 :=
  iprop(dutyTok ER (barCell (prv c)) 0 true ∗ dutyTok ER (barCell (nxt c)) 0 false
    ∗ (bigSep Finset.univ fun t : Fin 31 => dutyTok ER (dCell c 0 t) 0 false) ∗ bigSep Finset.univ fun t : Fin 31 => dutyTok ER (dCell (nxt c) 1 t) 0 false)

theorem linear_intro (c : Dev nD) : iprop((bigSep Finset.univ fun k : CK => atPos ER (kcell (c, k)) 0 ∅ 0) ∗ payToks c) ⊢ (linear c : sProp 𝕄) := by
  unfold linear payToks
  rw [bigSep_CK]
  iintro ⟨⟨H1, H2⟩, H3⟩
  isplitl [H1]; · iexact H1
  isplitl [H2] <;> iassumption

/-- The tokens dealt around the ring. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun t : Fin 31 => dutyTok ER (dCell c 1 t) 0 false : sProp 𝕄))]
  iintro ⟨⟨H1, H2⟩, H3, H4⟩
  isplitl [H2]; · iexact H2
  isplitl [H1]; · iexact H1
  isplitl [H3]; · iexact H3
  iexact H4

theorem regroup :
    (bigSep Finset.univ fun c : Dev nD => iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m) κ (kcell ck) : sProp 𝕄))) $$ HI
  icases HK with ⟨%K, #HI⟩
  ihave Htk := (toks_around (F := F)) $$ Htok
  iapply (bigSep_with_persistent (R := records m K) (Φ := linear) fun c _ => show iprop(records m K ∗ linear c) ⊢ G' m c from by
    unfold G' ghost; iintro H; iexists K; iexact H)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_eq_iff {a b : Dev nD × CK} : Iff (kcell a = kcell b) (a = b) := kcell_injective.eq_iff

theorem tally_kcell (a b : Dev nD × CK) (n : ℕ) : (tallyAt (kcell a) () n : CellTallies nD τ sig Unit) (kcell b) () = if a = b then n else 0 := by
  rw [tallyAt_apply]
  by_cases h : a = b
  · subst h; rw [if_pos ⟨rfl, rfl⟩, if_pos rfl]
  · rw [if_neg (fun h' => h (kcell_injective h'.1).symm), if_neg h]

theorem owedFrom_bar (d c : Dev nD) : ∀ (k : ℕ) (hk : k ≤ 31), owedFrom d k hk (barCell c) () = 0
  | 0, _ => rfl
  | k + 1, hk => by
      rw [owedFrom, Pi.add_apply, Finsupp.add_apply, owedFrom_bar d c k, Nat.zero_add]
      exact (tally_kcell (nxt d, .inr (1, stp k hk)) (c, .inl ()) N).trans (if_neg fun h => by cases (Prod.mk.inj h).2)

theorem owedFrom_rcv (d c : Dev nD) (t : Fin 31) : ∀ (k : ℕ) (hk : k ≤ 31),
    owedFrom d k hk (dCell c 1 t) () = if 31 ≤ k + t.val ∧ nxt d = c then N else 0
  | 0, _ => by rw [if_neg (fun h => by omega)]; rfl
  | k + 1, hk => by
      rw [owedFrom, Pi.add_apply, Finsupp.add_apply, owedFrom_rcv d c t k,
        show (tallyAt (dCell (nxt d) 1 (stp k hk)) () N : CellTallies nD τ sig Unit) (dCell c 1 t) () = _ from
          tally_kcell (nxt d, .inr (1, stp k hk)) (c, .inr (1, t)) N]
      simp only [Prod.mk.injEq, Sum.inr.injEq, true_and, Fin.ext_iff, stp]
      by_cases h : (nxt d).val = c.val
      · by_cases h1 : 31 ≤ k + t.val
        · rw [if_pos ⟨h1, h⟩, if_neg (fun hh => by omega), if_pos ⟨by omega, h⟩]; omega
        · by_cases h2 : 30 - k = t.val
          · rw [if_neg (fun hh => h1 hh.1), if_pos ⟨h, h2⟩, if_pos ⟨by omega, h⟩]; omega
          · rw [if_neg (fun hh => h1 hh.1), if_neg (fun hh => h2 hh.2), if_neg (fun hh => by omega)]
      · rw [if_neg (fun hh => h hh.2), if_neg (fun hh => h hh.1), if_neg (fun hh => h hh.2)]

theorem owed_bar (d c : Dev nD) : O₀ d (barCell c) () = (if d = prv c then 1 else 0) + (if d = nxt c then 1 else 0) := by
  unfold O₀ O₁ O₂
  rw [Pi.add_apply, Finsupp.add_apply, Pi.add_apply, Finsupp.add_apply, owedFrom_bar, Nat.zero_add,
    show (tallyAt (barCell (nxt d)) () 1 : CellTallies nD τ sig Unit) (barCell c) () = _ from tally_kcell (nxt d, .inl ()) (c, .inl ()) 1,
    show (tallyAt (barCell (prv d)) () 1 : CellTallies nD τ sig Unit) (barCell c) () = _ from tally_kcell (prv d, .inl ()) (c, .inl ()) 1]
  congr 1
  · by_cases h : d = prv c
    · subst h; rw [nxt_prv, if_pos rfl, if_pos rfl]
    · rw [if_neg (fun h' => h (by rw [← (Prod.mk.inj h').1, prv_nxt])), if_neg h]
  · by_cases h : d = nxt c
    · subst h; rw [prv_nxt, if_pos rfl, if_pos rfl]
    · rw [if_neg (fun h' => h (by rw [← (Prod.mk.inj h').1, nxt_prv])), if_neg h]

theorem owed_rcv (d c : Dev nD) (t : Fin 31) : O₀ d (dCell c 1 t) () = if d = prv c then N else 0 := by
  unfold O₀ O₁ O₂
  rw [Pi.add_apply, Finsupp.add_apply, Pi.add_apply, Finsupp.add_apply, owedFrom_rcv,
    show (tallyAt (barCell (nxt d)) () 1 : CellTallies nD τ sig Unit) (dCell c 1 t) () = _ from tally_kcell (nxt d, .inl ()) (c, .inr (1, t)) 1,
    show (tallyAt (barCell (prv d)) () 1 : CellTallies nD τ sig Unit) (dCell c 1 t) () = _ from tally_kcell (prv d, .inl ()) (c, .inr (1, t)) 1,
    if_neg (c := (nxt d, Sum.inl ()) = (c, Sum.inr (1, t))) (fun h => by cases (Prod.mk.inj h).2),
    if_neg (c := (prv d, Sum.inl ()) = (c, Sum.inr (1, t))) (fun h => by cases (Prod.mk.inj h).2)]
  show (if 31 ≤ 31 + t.val ∧ nxt d = c then N else 0) = _
  by_cases h : d = prv c
  · subst h; rw [nxt_prv, if_pos ⟨by omega, rfl⟩, if_pos rfl]
  · rw [if_neg (fun h' => h (by rw [← h'.2, prv_nxt])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_rcv (c : Dev nD) (t : Fin 31) :
    tallyOn (dCell c 1 t) (launchCredit (Pipeline.owing O₀) 0 (dCell c 1 t)) = (tallyAt (dCell c 1 t) () N : CellTallies nD τ sig Unit) := by
  unfold tallyAt; refine congrArg _ (Finsupp.ext fun u => ?_); cases u
  rw [Pipeline.launchCredit_owing, Finsupp.single_eq_same, Finset.sum_congr rfl fun d _ => owed_rcv d c t, Finset.sum_ite_eq' Finset.univ (prv c) fun _ => N,
    if_pos (Finset.mem_univ _)]

/-- The arrival semaphores. -/
def rcvEmb : Fin 31 ↪ SemLoc sig := ⟨fun t => .dma (dsem 1 t), fun t t' h => by
  have := congrArg cls h
  dsimp only at this
  rw [cls_d, cls_d] at this
  exact (Prod.mk.inj (Sum.inr.inj (Option.some.inj this))).2⟩

theorem creds (c : Dev nD) :
    (Pipeline.launchCred O₀ c : sProp 𝕄) ⊢ iprop(cred (tallyAt (barCell c) () 2) ∗ bigSep Finset.univ fun t : Fin 31 => cred (tallyAt (dCell c 1 t) () N)) := by
  unfold Pipeline.launchCred
  rw [bigSep_univ_at _ (SemLoc.reg barS), launch_bar]
  refine sep_mono_right ?_
  have hsub : Finset.univ.map rcvEmb ⊆ Finset.univ.erase (SemLoc.reg barS : SemLoc sig) := fun x hx => by
    obtain ⟨t, -, rfl⟩ := Finset.mem_map.mp hx
    exact Finset.mem_erase.mpr ⟨(fun h => by cases h), Finset.mem_univ _⟩
  refine (bigSep_subset hsub).trans ?_
  rw [bigSep_map]
  exact bigSep_mono fun t _ => by rw [← launch_rcv c t]; exact Entails.refl _

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch accPts
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch accPts
  iintro ⟨Hr, HzD, HzB⟩
  isplitl [HzB]; · iexact HzB
  isplitl [HzD] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with zero counters, every weakly fair execution of the thirty-two devices' programs terminates,
    with each window's array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RS
-- ==== Proof.Scatter.lean ====
/-
# The reduce-scatter's sum

After `t` steps the accumulator's chunk `c - r` of device `c` holds, for `r ≤ t`, the sum of the partial
products of devices `c, c - 1, …, c - r` there, and for `r > t` the device's own; so after thirty-one steps the
own chunk `c + 1` holds the sum over all thirty-two devices.
-/
module

public import proofs.«01_k».proof.Proof.Run
public import Idealize.ShloMosaic.Lib.Pointwise
public import Idealize.ShloMosaic.PureOps.Ideal

@[expose] public section

set_option maxRecDepth 16384

noncomputable section

namespace Cert.RS

open Cert.KernelIdeal Cert.KernelIdeal.Gen
open Idealize.ShloMosaic Idealize.ShloMosaic.TcCoe

theorem off1_eq (c : Dev nD) (t : Fin 31) : k0_off1 c (BitVec.ofNat 32 t.val) = ![16 * ((c.val + 31 * t.val) % 32), 0] := by
  revert c t; decide +kernel
theorem off2_eq (c : Dev nD) (t : Fin 31) : k0_off2 c (BitVec.ofNat 32 t.val) = ![16 * ((c.val + 31 * (t.val + 1)) % 32), 0] := by
  revert c t; decide +kernel
theorem off3_eq (c : Dev nD) : k0_off3 c = ![16 * ((c.val + 1) % 32), 0] := by
  revert c; decide +kernel

/-- An accumulator's contents. -/
abbrev Acc : Type := Vec Ideal S512x1024 .f32

/-- Where chunk rows at offset `o` lie. -/
theorem emb_rows {off : Fin 2 → Nat} (inb : ∀ a, off a + S16x1024.size a ≤ S512x1024.size a) (o : ℕ) (ho : off = ![o, 0]) (i : Fin 512) (n : Fin 1024)
    (a : Fin 16) (h : i.val = o + a.val) :
    (Rect.unit (s := S512x1024) off S16x1024.size inb).emb (ix2 a n) = ix2 i n := by
  subst ho
  funext b
  apply Fin.ext
  match b with
  | ⟨0, _⟩ => show o + 1 * a.val = i.val; omega
  | ⟨1, _⟩ => show 0 + 1 * n.val = n.val; omega

/-- What the chunk sent holds. -/
theorem snd_read (d : Dev nD) (t : Fin 31) (f : Acc) (i : Fin 512) (n : Fin 1024) (h : i.val / 16 = (d.val + 31 * t.val) % 32) :
    ((sndM d t).view.read (Elt Ideal) f : Vec Ideal S16x1024 .f32) (ix2 ⟨i.val % 16, Nat.mod_lt _ (by decide)⟩ n) = f (ix2 i n) := by
  have he := emb_rows (k0_off1_inb d t) _ (off1_eq d t) i n ⟨i.val % 16, Nat.mod_lt _ (by decide)⟩ (by show i.val = _ + i.val % 16; omega)
  exact congrArg f he

/-- What a step leaves, in its chunk … -/
theorem step_in (c : Dev nD) (t : Fin 31) (f : Acc) (w : Vec Ideal S16x1024 .f32) (i : Fin 512) (n : Fin 1024)
    (h : i.val / 16 = (c.val + 31 * (t.val + 1)) % 32) :
    accStep c t f w (ix2 i n) = (f (ix2 i n) + w (ix2 ⟨i.val % 16, Nat.mod_lt _ (by decide)⟩ n) : EReal) := by
  have he := emb_rows (k0_off2_inb c t) _ (off2_eq c t) i n ⟨i.val % 16, Nat.mod_lt _ (by decide)⟩ (by show i.val = _ + i.val % 16; omega)
  have h1 := View.write_emb_of_mem (v := (accM.access (addR c t) : View sig .tc _ _ _)) (Val := Elt Ideal) f
    (stepVal (accM.view.readAt (Elt Ideal) (addR c t).toLoadRect f) w) (Finset.mem_univ (ix2 ⟨i.val % 16, Nat.mod_lt _ (by decide)⟩ n))
  have h2 : stepVal (accM.view.readAt (Elt Ideal) (addR c t).toLoadRect f) w (ix2 ⟨i.val % 16, Nat.mod_lt _ (by decide)⟩ n)
      = (f (ix2 i n) + w (ix2 ⟨i.val % 16, Nat.mod_lt _ (by decide)⟩ n) : EReal) := by
    have h3 : (accM.view.readAt (Elt Ideal) (addR c t).toLoadRect f : Vec Ideal S16x1024 .f32) (ix2 ⟨i.val % 16, Nat.mod_lt _ (by decide)⟩ n) = f (ix2 i n) :=
      congrArg f he
    generalize (accM.view.readAt (Elt Ideal) (addR c t).toLoadRect f : Vec Ideal S16x1024 .f32) = u at h3 ⊢
    pointwise [stepVal]
    rw [h3]
  unfold accStep
  rw [← h2, ← he]
  exact h1

/-- … and elsewhere. -/
theorem step_out (c : Dev nD) (t : Fin 31) (f : Acc) (w : Vec Ideal S16x1024 .f32) (i : Fin 512) (n : Fin 1024)
    (h : i.val / 16 ≠ (c.val + 31 * (t.val + 1)) % 32) : accStep c t f w (ix2 i n) = f (ix2 i n) := by
  unfold accStep
  refine View.write_of_not_mem _ _ _ fun hm => h ?_
  obtain ⟨x, -, hx⟩ := Finset.mem_map.mp hm
  have h1 : (k0_off2 c (BitVec.ofNat 32 t.val)) 0 + 1 * (x 0).val = i.val := congrArg (fun y : S512x1024.Idx => (y 0).val) hx
  have h2 : (x 0).val < 16 := (x 0).isLt
  rw [off2_eq] at h1
  have h3 : 16 * ((c.val + 31 * (t.val + 1)) % 32) + 1 * (x 0).val = i.val := h1
  omega

set_option backward.proofsInPublic true in
/-- The device `s` places to the left. -/
def bk (c : Dev nD) (s : ℕ) : Dev nD := ⟨(c.val + 31 * s) % 32, Nat.mod_lt _ (by decide)⟩

theorem bk_zero (c : Dev nD) : bk c 0 = c := Fin.ext (by have h : c.val < 32 := c.isLt; show (c.val + 31 * 0) % 32 = c.val; omega)
theorem bk_prv (c : Dev nD) (s : ℕ) : bk (prv c) s = bk c (s + 1) := Fin.ext (by
  show ((c.val + 31) % 32 + 31 * s) % 32 = (c.val + 31 * (s + 1)) % 32; omega)

variable (A : Dev nD → Acc)

/-- The running sums: chunk `c - r` after `t` steps. -/
theorem accOf_apply : ∀ (t : ℕ) (ht : t ≤ 31) (c : Dev nD) (i : Fin 512) (n : Fin 1024) (r : ℕ) (hr : r < 32) (hi : i.val / 16 = (c.val + 31 * r) % 32),
    accOf A t c (ix2 i n) = ((∑ s ∈ Finset.range (if r ≤ t then r + 1 else 1), (A (bk c s) (ix2 i n) : EReal)) : EReal)
  | 0, _, c, i, n, r, hr, hi => by
      have h1 : (if r ≤ 0 then r + 1 else 1) = 1 := by split <;> omega
      rw [h1, Finset.sum_range_one, bk_zero]
      rfl
  | t + 1, ht, c, i, n, r, hr, hi => by
      have h := accOf_succ A ⟨t, by omega⟩ c
      rw [show accOf A (t + 1) c = _ from h]
      have hc : c.val < 32 := c.isLt
      by_cases hrt : r = t + 1
      · subst hrt
        rw [step_in c ⟨t, by omega⟩ _ _ i n hi, accOf_apply t (by omega) c i n (t + 1) hr hi, if_neg (by omega), Finset.sum_range_one, bk_zero,
          if_pos (Nat.le_refl _)]
        have hp : i.val / 16 = ((prv c).val + 31 * t) % 32 := by
          show _ = ((c.val + 31) % 32 + 31 * t) % 32; omega
        have ha : arrivalOf A c ⟨t, by omega⟩ (ix2 ⟨i.val % 16, Nat.mod_lt _ (by decide)⟩ n) = accOf A t (prv c) (ix2 i n) :=
          snd_read (prv c) ⟨t, by omega⟩ (accOf A t (prv c)) i n hp
        rw [ha, accOf_apply t (by omega) (prv c) i n t (by omega) hp, if_pos (Nat.le_refl _), Finset.sum_range_succ' _ (t + 1), bk_zero, add_comm]
        simp only [bk_prv]
      · rw [step_out c ⟨t, by omega⟩ _ _ i n (by show _ ≠ (c.val + 31 * (t + 1)) % 32; omega), accOf_apply t (by omega) c i n r hr hi]
        have h1 : (if r ≤ t then r + 1 else 1) = (if r ≤ t + 1 then r + 1 else 1) := by
          split <;> split <;> omega
        rw [h1]

/-- At the end the own chunk is the sum over all devices. -/
theorem own_sum (c : Dev nD) (i : Fin 512) (n : Fin 1024) (hi : i.val / 16 = (c.val + 1) % 32) :
    accOf A 31 c (ix2 i n) = ((∑ d : Dev nD, (A d (ix2 i n) : EReal)) : EReal) := by
  rw [accOf_apply A 31 (Nat.le_refl _) c i n 31 (by decide) (by omega), if_pos (Nat.le_refl _), Finset.sum_range]
  have hinj : Function.Injective (fun s : Fin 32 => bk c s.val) := fun s s' h => by
    have h1 : (c.val + 31 * s.val) % 32 = (c.val + 31 * s'.val) % 32 := congrArg Fin.val h
    exact Fin.ext (by omega)
  exact Function.Bijective.sum_comp (M := EReal) (e := fun s : Fin 32 => bk c s.val) (Finite.injective_iff_bijective.mp hinj) (fun d => (A d (ix2 i n) : EReal))

/-- The own chunk as the result's shape has it. -/
theorem outVal_apply (u : Vec Ideal S16x1024 .f32) (a : Fin 16) (n : Fin 1024) : outVal u (ix3 0 a n) = u (ix2 a n) := by
  pointwise [outVal]

/-- What the own chunk's rows hold. -/
theorem own_read (c : Dev nD) (f : Acc) (a : Fin 16) (n : Fin 1024) :
    outVal (accM.view.readAt (Elt Ideal) (ownR c).toLoadRect f) (ix3 0 a n) = f (ix2 ⟨16 * ((c.val + 1) % 32) + a.val, by omega⟩ n) := by
  have he := emb_rows (k0_off3_inb c) _ (off3_eq c) ⟨16 * ((c.val + 1) % 32) + a.val, by omega⟩ n a rfl
  have h3 : (accM.view.readAt (Elt Ideal) (ownR c).toLoadRect f : Vec Ideal S16x1024 .f32) (ix2 a n)
      = f (ix2 ⟨16 * ((c.val + 1) % 32) + a.val, by omega⟩ n) := congrArg f he
  exact (outVal_apply _ a n).trans h3

variable (m : (ℓ : Loc nD τ sig) → Buf (Elt Ideal) ℓ)

/-- The device's result: its own rows of the sum. -/
theorem outAt_apply (c : Dev nD) (a : Fin 16) (n : Fin 1024) :
    outAt m c (ix3 0 a n) = ((∑ d : Dev nD, (acc0 m d (ix2 ⟨16 * ((c.val + 1) % 32) + a.val, by omega⟩ n) : EReal)) : EReal) :=
  (own_read c (accAt m 31 c) a n).trans (own_sum (acc0 m) c _ n (by show (16 * ((c.val + 1) % 32) + a.val) / 16 = _; omega))

end Cert.RS
-- ==== Proof.Attn.lean ====
/-
# One row of one head of softmax attention, and the kernel's partial product read by it

`headRow q k v d` is element `d` of one query row's attention over 2048 keys, as a formula of extended reals.
The kernel's head `h` is that formula at every row (`headVal_apply`), and its partial product is the sum over
the device's 1024 columns of heads times its rows of the output weights (`projVal_apply`).
-/
module

public import proofs.«01_k».proof.Proof.Body
public import Idealize.ShloMosaic.Lib.Pointwise
public import Idealize.ShloMosaic.PureOps.Ideal

@[expose] public section

set_option maxRecDepth 16384

noncomputable section

namespace Cert.RS

open Cert.KernelIdeal Cert.KernelIdeal.Gen
open Idealize.ShloMosaic

/-- The score of a query row against key `j`, scaled. -/
def score (q : Fin 128 → EReal) (k : Fin 2048 → Fin 128 → EReal) (j : Fin 2048) : EReal :=
  (∑ e : Fin 128, q e * k j e) * Ideal.ofBits .f32 0x3DB504F3#32

/-- The exponential of a score less the largest score. -/
def weight (q : Fin 128 → EReal) (k : Fin 2048 → Fin 128 → EReal) (j : Fin 2048) : EReal :=
  Ideal.exp (score q k j - Finset.univ.fold max (Ideal.ofBits .f32 0xFF800000#32) (fun j' => score q k j'))

/-- The weighted values over the sum of the weights. -/
def headRow (q : Fin 128 → EReal) (k v : Fin 2048 → Fin 128 → EReal) (d : Fin 128) : EReal :=
  Ideal.div (∑ j : Fin 2048, weight q k j * v j d) (∑ j : Fin 2048, weight q k j)

theorem qVal_apply (x : Vec Ideal S1x512x1024 .f32) (wq : Vec Ideal S1024x1024 .f32) (i : Fin 512) (n : Fin 1024) :
    qVal x wq (ix2 i n) = ∑ k : Fin 1024, x (ix3 0 i k) * wq (ix2 k n) := by
  pointwise [qVal]

theorem headVal_apply (q : FVec Ideal S512x1024 .f32) (h : Fin 8) (k v : Vec Ideal S2048x1x128 .f32) (i : Fin 512) (d : Fin 128) :
    headVal q h k v (ix2 i d)
      = headRow (fun e => q (ix2 i ⟨128 * h.val + e.val, by omega⟩)) (fun j e => k (ix3 j 0 e)) (fun j e => v (ix3 j 0 e)) d := by
  pointwise [headVal, expVal, scoreVal, headRow, weight, score]

/-- Column `128 j + r` of the heads side by side is column `r` of head `j`. -/
theorem head_col (hd : Fin 8 → FVec Ideal S512x128 .f32) (i : Fin 512) (x : Fin 1024) (j : Fin 8) (r : ℕ) (hr : r < 128) (hx : x.val = 128 * j.val + r) :
    hd j (ix2 i ⟨r, hr⟩) = hd ⟨x.val / 128, by omega⟩ (ix2 i ⟨x.val % 128, Nat.mod_lt _ (by decide)⟩) := by
  have h1 : (⟨x.val / 128, by omega⟩ : Fin 8) = j := Fin.ext (by show x.val / 128 = j.val; omega)
  have h2 : (⟨x.val % 128, Nat.mod_lt _ (by decide)⟩ : Fin 128) = ⟨r, hr⟩ := Fin.ext (by show x.val % 128 = r; omega)
  rw [h1, h2]

theorem projVal_apply (hd : Fin 8 → FVec Ideal S512x128 .f32) (wo : Vec Ideal S1024x1024 .f32) (i : Fin 512) (n : Fin 1024) :
    projVal hd wo (ix2 i n)
      = ∑ x : Fin 1024, hd ⟨x.val / 128, by omega⟩ (ix2 i ⟨x.val % 128, Nat.mod_lt _ (by decide)⟩) * wo (ix2 x n) := by
  pointwise [projVal]
  refine Finset.sum_congr rfl fun x _ => ?_
  refine congrArg (fun a : EReal => a * wo (ix2 x n)) ?_
  have hx := x.isLt
  split
  · exact head_col hd i x 0 _ _ (by omega)
  split
  · exact head_col hd i x 1 _ _ (by show x.val = 128 * 1 + _; omega)
  split
  · exact head_col hd i x 2 _ _ (by show x.val = 128 * 2 + _; omega)
  split
  · exact head_col hd i x 3 _ _ (by show x.val = 128 * 3 + _; omega)
  split
  · exact head_col hd i x 4 _ _ (by show x.val = 128 * 4 + _; omega)
  split
  · exact head_col hd i x 5 _ _ (by show x.val = 128 * 5 + _; omega)
  split
  · exact head_col hd i x 6 _ _ (by show x.val = 128 * 6 + _; omega)
  · exact head_col hd i x 7 _ _ (by show x.val = 128 * 7 + _; omega)

end Cert.RS
-- ==== Proof.RefVal.lean ====
/-
# What the reference computes, element by element

The reference's result is a roll by one chunk of `y`; `y`'s element is the sum over all 32768 columns of heads
of the attention formula `headRow` of the whole arrays, times the output weights.
-/
module

public import proofs.«01_k».proof.Proof.Attn
public import proofs.«01_k».proof.Proof.Gen.ReferenceIdeal.Run
public import Idealize.ShloMosaic.Lib.Tactic.CleanTypes

@[expose] public section

set_option maxRecDepth 16384

noncomputable section

namespace Cert.RS.Ref

open Cert.ReferenceIdeal Cert.ReferenceIdeal.Gen
open Idealize.ShloMosaic Idealize.ShloMosaic.TcCoe
open Cert.RS (headRow weight score)

section Arrays

variable (X : Vec Ideal S1x512x1024 .f32) (Wq : Vec Ideal S1024x32768 .f32) (Wo : Vec Ideal S32768x1024 .f32)
  (K V : Vec Ideal S2048x256x128 .f32)

/-- Row `i`, column `e` of head `h` of the queries. -/
def qRow (i : Fin 512) (h : Fin 256) (e : Fin 128) : EReal :=
  ∑ k : Fin 1024, X (ix3 0 i k) * Wq (ix2 k ⟨h.val * 128 + e.val, by omega⟩)

/-- Row `i`, column `d` of head `h` of the attention. -/
def attnAt (i : Fin 512) (h : Fin 256) (d : Fin 128) : EReal :=
  headRow (qRow X Wq i h) (fun j e => K (ix3 j h e)) (fun j e => V (ix3 j h e)) d

/-- Element `(i, n)` of the projected output. -/
def yAt (i : Fin 512) (n : Fin 1024) : EReal :=
  ∑ x : Fin 32768, attnAt X Wq K V i ⟨x.val / 128, by omega⟩ ⟨x.val % 128, Nat.mod_lt _ (by decide)⟩ * Wo (ix2 x n)

/-- The reference's scaled scores. -/
def scoreR : FVec Ideal S1x256x512x2048 .f32 :=
  mulf (transpose S1x256x512x2048 [2, 0, 3, 1] (Host.dotGeneral (φ₁ := .f32) (φ₂ := .f32) dot_S2048x256x128_S1x512x256x128_S256x2048x1x512_2_3_0_01_1_2 none K
      (shapeCast S1x512x256x128 (Host.dotGeneral (F := Ideal) (φ₁ := .f32) (φ₂ := .f32) dot_S1x512x1024_S1024x32768_S1x512x32768_2_0_01_1_n_n none X Wq : FVec Ideal S1x512x32768 .f32) shapeCasts_S1x512x32768_S1x512x256x128) : FVec Ideal S256x2048x1x512 .f32)
      transposes_S256x2048x1x512_S1x256x512x2048_2_0_3_1)
    (broadcastInDim S1x256x512x2048 ![] bcast_S_S1x256x512x2048 (constant S_ .f32 0x3DB504F3#32))

/-- Its exponentials, of scores `s`. -/
def expR (s : FVec Ideal S1x256x512x2048 .f32) : FVec Ideal S1x256x512x2048 .f32 :=
  Host.exp (subf s (broadcastInDim S1x256x512x2048 ![0, 1, 2, 3] bcast_S1x256x512x1_S1x256x512x2048_0_1_2_3
    (broadcastInDim S1x256x512x1 ![0, 1, 2] bcast_S1x256x512_S1x256x512x1_0_1_2
      (Host.reduce FloatOps.maximumf s (constant S_ .f32 0xFF800000#32) reducesTo_S1x256x512x2048_S1x256x512_d3 h_S_))))

/-- Its attention, of exponentials `p`. -/
def attnR (p : FVec Ideal S1x256x512x2048 .f32) : FVec Ideal S1x512x256x128 .f32 :=
  Host.divf (transpose S1x512x256x128 [2, 3, 0, 1] (Host.dotGeneral (φ₁ := .f32) (φ₂ := .f32) dot_S2048x256x128_S1x256x512x2048_S256x128x1x512_0_3_2_02_1_1 none V p : FVec Ideal S256x128x1x512 .f32)
      transposes_S256x128x1x512_S1x512x256x128_2_3_0_1)
    (broadcastInDim S1x512x256x128 ![0, 1, 2, 3] bcast_S1x512x256x1_S1x512x256x128_0_1_2_3
      (transpose S1x512x256x1 [0, 2, 1, 3] (broadcastInDim S1x256x512x1 ![0, 1, 2] bcast_S1x256x512_S1x256x512x1_0_1_2
        (Host.reduceAdd p (constant S_ .f32 0x00000000#32) reducesTo_S1x256x512x2048_S1x256x512_d3 h_S_)) transposes_S1x256x512x1_S1x512x256x1_0_2_1_3))

/-- Its projection, of the attention `o`. -/
def projR (o : FVec Ideal S1x512x256x128 .f32) : FVec Ideal S1x512x1024 .f32 :=
  Host.dotGeneral (φ₁ := .f32) (φ₂ := .f32) dot_S1x512x32768_S32768x1024_S1x512x1024_2_0_01_1_n_n none
    (shapeCast S1x512x32768 o shapeCasts_S1x512x256x128_S1x512x32768) Wo

/-- Its roll by one chunk. -/
def rollR (y : FVec Ideal S1x512x1024 .f32) : FVec Ideal S1x512x1024 .f32 :=
  concatenate S1x512x1024 1 [⟨S1x496x1024, extractStridedSlice S1x496x1024 ![0, 16, 0] y slices_S1x512x1024_S1x496x1024_0_16_0⟩,
    ⟨S1x16x1024, extractStridedSlice S1x16x1024 ![0, 0, 0] y slices_S1x512x1024_S1x16x1024_0_0_0⟩] concatenates_S1x496x1024_S1x16x1024_S1x512x1024_d1

theorem scoreR_apply (h : Fin 256) (i : Fin 512) (j : Fin 2048) :
    scoreR X Wq K (ix4 0 h i j) = score (qRow X Wq i h) (fun j e => K (ix3 j h e)) j := by
  pointwise [scoreR, score, qRow]
  exact congrArg (fun a : EReal => a * Ideal.ofBits .f32 0x3DB504F3#32) (Finset.sum_congr rfl fun e _ => mul_comm (G := EReal) _ _)

theorem expR_apply (s : FVec Ideal S1x256x512x2048 .f32) (h : Fin 256) (i : Fin 512) (j : Fin 2048) :
    expR s (ix4 0 h i j) = Ideal.exp (s (ix4 0 h i j) - Finset.univ.fold max (Ideal.ofBits .f32 0xFF800000#32) (fun j' => s (ix4 0 h i j'))) := by
  pointwise [expR]

theorem attnR_apply (p : FVec Ideal S1x256x512x2048 .f32) (i : Fin 512) (h : Fin 256) (d : Fin 128) :
    attnR V p (ix4 0 i h d) = Ideal.div (∑ j : Fin 2048, p (ix4 0 h i j) * V (ix3 j h d)) (∑ j : Fin 2048, p (ix4 0 h i j)) := by
  pointwise [attnR]
  exact congrArg (fun a : EReal => Ideal.div a _) (Finset.sum_congr rfl fun j _ => mul_comm (G := EReal) _ _)

theorem projR_apply (o : FVec Ideal S1x512x256x128 .f32) (i : Fin 512) (n : Fin 1024) :
    projR Wo o (ix3 0 i n) = ∑ x : Fin 32768, o (ix4 0 i ⟨x.val / 128, by omega⟩ ⟨x.val % 128, Nat.mod_lt _ (by decide)⟩) * Wo (ix2 x n) := by
  pointwise [projR]

theorem rollR_apply (y : FVec Ideal S1x512x1024 .f32) (i : Fin 512) (n : Fin 1024) :
    rollR y (ix3 0 i n) = y (ix3 0 ⟨(i.val + 16) % 512, Nat.mod_lt _ (by decide)⟩ n) := by
  pointwise [rollR]
  split
  · congr 2; apply Fin.ext; show 16 + i.val = (i.val + 16) % 512; omega
  · congr 2; apply Fin.ext; show i.val - 496 = (i.val + 16) % 512; omega

/-- The projected output at an element. -/
theorem y_apply (i : Fin 512) (n : Fin 1024) : projR Wo (attnR V (expR (scoreR X Wq K))) (ix3 0 i n) = yAt X Wq Wo K V i n := by
  rw [projR_apply]
  unfold yAt attnAt headRow weight
  refine Finset.sum_congr rfl fun x _ => ?_
  simp only [attnR_apply, expR_apply, scoreR_apply]

/-- The reference's result at an element: `y` sixteen rows further on. -/
theorem result_apply (i : Fin 512) (n : Fin 1024) :
    rollR (projR Wo (attnR V (expR (scoreR X Wq K)))) (ix3 0 i n) = yAt X Wq Wo K V ⟨(i.val + 16) % 512, Nat.mod_lt _ (by decide)⟩ n := by
  rw [rollR_apply, y_apply]

end Arrays

theorem res_eq (m : (ℓ : Loc nD τ sig) → Buf (Elt Ideal) ℓ) (c : Dev nD) :
    Cert.ReferenceIdeal.Value.res_main_v20 m c
      = rollR (projR (m ((c.tc : Thread nD τ).loc main_arg2)) (attnR (m ((c.tc : Thread nD τ).loc main_arg4))
          (expR (scoreR (m ((c.tc : Thread nD τ).loc main_arg0)) (m ((c.tc : Thread nD τ).loc main_arg1)) (m ((c.tc : Thread nD τ).loc main_arg3)))))) := by
  unfold Cert.ReferenceIdeal.Value.res_main_v20
  rfl

end Cert.RS.Ref
-- ==== Proof.Equal.lean ====
/-
# The kernel's result is its block of the reference's result

Device `d` holds heads `8 d … 8 d + 7`: its partial product at row `i` is the part of `y`'s sum over the columns
`1024 d … 1024 d + 1023`. The sum over the devices is the whole sum, and the own chunk `c + 1` of device `c` is
block `c` of the rolled result.
-/
module

public import proofs.«01_k».proof.Proof.Scatter
public import proofs.«01_k».proof.Proof.Attn
public import proofs.«01_k».proof.Proof.RefVal
public import Idealize.ShloMosaic.Lib.Pipeline.ValueKit
public import Idealize.ShloMosaic.Lib.Layout

@[expose] public section

set_option maxRecDepth 16384

noncomputable section

namespace Cert.RS

open Cert.KernelIdeal Cert.KernelIdeal.Gen
open Idealize.ShloMosaic Idealize.ShloMosaic.TcCoe

variable (m : (ℓ : Loc nD τ sig) → Buf (Elt Ideal) ℓ)

/-- Every window's block index at the one point. -/
theorem idx : win0_0.index (0 : Fin 1) = ![0, 0, 0] ∧ win0_1.index (0 : Fin 1) = ![0, 0] ∧ win0_2.index (0 : Fin 1) = ![0, 0]
    ∧ win0_3.index (0 : Fin 1) = ![0, 0, 0] ∧ win0_4.index (0 : Fin 1) = ![0, 0, 0] := by decide +kernel

theorem xstg_eq (c : Dev nD) : xstg m c = m ((c : Thread nD τ).loc main_arg0) := by
  blk_ext! [xstg, idx]
theorem wqstg_eq (c : Dev nD) : wqstg m c = m ((c : Thread nD τ).loc main_arg1) := by
  blk_ext! [wqstg, idx]
theorem wostg_eq (c : Dev nD) : wostg m c = m ((c : Thread nD τ).loc main_arg2) := by
  blk_ext! [wostg, idx]
theorem kstg_eq (c : Dev nD) : kstg m c = m ((c : Thread nD τ).loc main_arg3) := by
  blk_ext! [kstg, idx]
theorem vstg_eq (c : Dev nD) : vstg m c = m ((c : Thread nD τ).loc main_arg4) := by
  blk_ext! [vstg, idx]

/-- What head `h`'s keys (or values) are. -/
theorem headOf_apply (f : Vec Ideal S2048x8x128 .f32) (h : Fin 8) (j : Fin 2048) (e : Fin 128) :
    headOf (F := Ideal) f h (ix3 j 0 e) = f (ix3 j h e) := by
  refine congrArg f ?_
  funext b
  apply Fin.ext
  match b with
  | ⟨0, _⟩ => show 0 + 1 * j.val = j.val; omega
  | ⟨1, _⟩ => show h.val + 1 * 0 = h.val; omega
  | ⟨2, _⟩ => show 0 + 1 * e.val = e.val; omega

theorem headRow_congr {q q' : Fin 128 → EReal} {k k' v v' : Fin 2048 → Fin 128 → EReal} {d d' : Fin 128} (hq : ∀ e, q e = q' e)
    (hk : ∀ j e, k j e = k' j e) (hv : ∀ j e, v j e = v' j e) (hd : d = d') : headRow q k v d = headRow q' k' v' d' := by
  obtain rfl : q = q' := funext hq
  obtain rfl : k = k' := funext fun j => funext (hk j)
  obtain rfl : v = v' := funext fun j => funext (hv j)
  rw [hd]

section Whole

variable (X : Vec Ideal S1x512x1024 .f32) (Wq : Vec Ideal ⟨2, ![1024, 32768]⟩ .f32) (Wo : Vec Ideal ⟨2, ![32768, 1024]⟩ .f32)
  (K V : Vec Ideal ⟨3, ![2048, 256, 128]⟩ .f32)

theorem block_cols (d : Fin 32) (k n : Fin 1024) :
    Layout.block ⟨2, ![1024, 1024]⟩ ⟨2, ![1024, 32768]⟩ 1 32 d Wq (by decide) (ix2 k n) = Wq (ix2 k ⟨d.val * 1024 + n.val, by omega⟩) := by
  refine congrArg Wq ?_
  funext b
  match b with
  | ⟨0, _⟩ => rfl
  | ⟨1, _⟩ => rfl

theorem block_rows (d : Fin 32) (k n : Fin 1024) :
    Layout.block ⟨2, ![1024, 1024]⟩ ⟨2, ![32768, 1024]⟩ 0 32 d Wo (by decide) (ix2 k n) = Wo (ix2 ⟨d.val * 1024 + k.val, by omega⟩ n) := by
  refine congrArg Wo ?_
  funext b
  match b with
  | ⟨0, _⟩ => rfl
  | ⟨1, _⟩ => rfl

theorem block_heads (d : Fin 32) (j : Fin 2048) (h : Fin 8) (e : Fin 128) :
    Layout.block ⟨3, ![2048, 8, 128]⟩ ⟨3, ![2048, 256, 128]⟩ 1 32 d K (by decide) (ix3 j h e) = K (ix3 j ⟨d.val * 8 + h.val, by omega⟩ e) := by
  refine congrArg K ?_
  funext b
  match b with
  | ⟨0, _⟩ => rfl
  | ⟨1, _⟩ => rfl
  | ⟨2, _⟩ => rfl

/-- Column `e` of head `g` at row `i`, times the output weights at column `n`. -/
def term (i : Fin 512) (n : Fin 1024) (x : Fin 32768) : EReal :=
  Ref.attnAt X Wq K V i ⟨x.val / 128, by omega⟩ ⟨x.val % 128, Nat.mod_lt _ (by decide)⟩ * Wo (ix2 x n)

/-- A device's partial product at an element: its columns' part of the sum. -/
theorem accIn_apply (d : Dev nD) (i : Fin 512) (n : Fin 1024) :
    accIn X (Layout.block ⟨2, ![1024, 1024]⟩ ⟨2, ![1024, 32768]⟩ 1 32 d Wq) (Layout.block ⟨2, ![1024, 1024]⟩ ⟨2, ![32768, 1024]⟩ 0 32 d Wo)
        (Layout.block ⟨3, ![2048, 8, 128]⟩ ⟨3, ![2048, 256, 128]⟩ 1 32 d K) (Layout.block ⟨3, ![2048, 8, 128]⟩ ⟨3, ![2048, 256, 128]⟩ 1 32 d V) (ix2 i n)
      = ((∑ x : Fin 1024, term X Wq Wo K V i n ⟨d.val * 1024 + x.val, by have h : d.val < 32 := d.isLt; omega⟩ : EReal) : EReal) := by
  have hd : d.val < 32 := d.isLt
  unfold accIn
  rw [projVal_apply]
  refine Finset.sum_congr (M := EReal) rfl fun x _ => ?_
  rw [block_rows, headVal_apply]
  refine congrArg (fun a : EReal => a * _) (headRow_congr (fun e => ?_) (fun j e => ?_) (fun j e => ?_) (Fin.ext ?_))
  · rw [qVal_apply]
    refine Finset.sum_congr rfl fun k _ => congrArg (fun a : EReal => _ * a) ((block_cols Wq d k _).trans (congrArg (fun g => Wq (ix2 k g)) (Fin.ext ?_)))
    show d.val * 1024 + (128 * (x.val / 128) + e.val) = (d.val * 1024 + x.val) / 128 * 128 + e.val
    omega
  · refine (headOf_apply _ _ j e).trans ((block_heads K d j _ e).trans (congrArg (fun g => K (ix3 j g e)) (Fin.ext ?_)))
    show d.val * 8 + x.val / 128 = (d.val * 1024 + x.val) / 128
    omega
  · refine (headOf_apply _ _ j e).trans ((block_heads V d j _ e).trans (congrArg (fun g => V (ix3 j g e)) (Fin.ext ?_)))
    show d.val * 8 + x.val / 128 = (d.val * 1024 + x.val) / 128
    omega
  · show x.val % 128 = (d.val * 1024 + x.val) % 128
    omega

/-- The sum over the devices is `y`. -/
theorem sum_devices (i : Fin 512) (n : Fin 1024) :
    (∑ d : Dev nD, ∑ x : Fin 1024, term X Wq Wo K V i n ⟨d.val * 1024 + x.val, by have h : d.val < 32 := d.isLt; omega⟩) = Ref.yAt X Wq Wo K V i n := by
  have h := Fin.sum_univ_univ_mul_add 32 1024 (fun l => if hl : l < 32768 then term X Wq Wo K V i n ⟨l, hl⟩ else 0)
  have h1 : (∑ d : Dev nD, ∑ x : Fin 1024, term X Wq Wo K V i n ⟨d.val * 1024 + x.val, by have h : d.val < 32 := d.isLt; omega⟩)
      = ∑ s : Fin 32, ∑ k : Fin 1024, (fun l => if hl : l < 32768 then term X Wq Wo K V i n ⟨l, hl⟩ else 0) (s.val * 1024 + k.val) :=
    Finset.sum_congr rfl fun d _ => Finset.sum_congr rfl fun x _ => by
      have hd : d.val < 32 := d.isLt
      have hx : d.val * 1024 + x.val < 32768 := by omega
      show _ = dite (d.val * 1024 + x.val < 32768) _ _
      rw [dif_pos hx]
  rw [h1, h]
  unfold Ref.yAt
  exact Finset.sum_congr rfl fun x _ => dif_pos x.isLt

/-- The partial products of the devices add up to `y`. -/
theorem sum_accIn (A : Dev nD → Vec Ideal S512x1024 .f32)
    (hA : ∀ d : Dev nD, A d = accIn X (Layout.block ⟨2, ![1024, 1024]⟩ ⟨2, ![1024, 32768]⟩ 1 32 d Wq)
        (Layout.block ⟨2, ![1024, 1024]⟩ ⟨2, ![32768, 1024]⟩ 0 32 d Wo) (Layout.block ⟨3, ![2048, 8, 128]⟩ ⟨3, ![2048, 256, 128]⟩ 1 32 d K)
        (Layout.block ⟨3, ![2048, 8, 128]⟩ ⟨3, ![2048, 256, 128]⟩ 1 32 d V)) (i : Fin 512) (n : Fin 1024) :
    ((∑ d : Dev nD, (A d (ix2 i n) : EReal)) : EReal) = Ref.yAt X Wq Wo K V i n :=
  (Finset.sum_congr (M := EReal) rfl fun d _ => (congrFun (hA d) _).trans (accIn_apply X Wq Wo K V d _ n)).trans (sum_devices X Wq Wo K V i n)

/-- The kernel's result on device `c` is block `c` of the rolled `y`. -/
theorem outAt_block (c : Dev nD)
    (hX : ∀ d : Dev nD, m ((d : Thread nD τ).loc main_arg0) = X)
    (hq : ∀ d : Dev nD, m ((d : Thread nD τ).loc main_arg1) = Layout.block ⟨2, ![1024, 1024]⟩ ⟨2, ![1024, 32768]⟩ 1 32 d Wq)
    (ho : ∀ d : Dev nD, m ((d : Thread nD τ).loc main_arg2) = Layout.block ⟨2, ![1024, 1024]⟩ ⟨2, ![32768, 1024]⟩ 0 32 d Wo)
    (hk : ∀ d : Dev nD, m ((d : Thread nD τ).loc main_arg3) = Layout.block ⟨3, ![2048, 8, 128]⟩ ⟨3, ![2048, 256, 128]⟩ 1 32 d K)
    (hv : ∀ d : Dev nD, m ((d : Thread nD τ).loc main_arg4) = Layout.block ⟨3, ![2048, 8, 128]⟩ ⟨3, ![2048, 256, 128]⟩ 1 32 d V) :
    outAt m c = Layout.block ⟨3, ![1, 16, 1024]⟩ ⟨3, ![1, 512, 1024]⟩ 1 32 c (Ref.rollR (Ref.projR Wo (Ref.attnR V (Ref.expR (Ref.scoreR X Wq K))))) := by
  have hc : c.val < 32 := c.isLt
  have hat : ∀ (a : Fin 16) (n : Fin 1024), outAt m c (ix3 0 a n)
      = Layout.block ⟨3, ![1, 16, 1024]⟩ ⟨3, ![1, 512, 1024]⟩ 1 32 c (Ref.rollR (Ref.projR Wo (Ref.attnR V (Ref.expR (Ref.scoreR X Wq K))))) (by decide) (ix3 0 a n) := fun a n => by
    have hb : Layout.block ⟨3, ![1, 16, 1024]⟩ ⟨3, ![1, 512, 1024]⟩ 1 32 c (Ref.rollR (Ref.projR Wo (Ref.attnR V (Ref.expR (Ref.scoreR X Wq K))))) (by decide) (ix3 0 a n)
        = Ref.rollR (Ref.projR Wo (Ref.attnR V (Ref.expR (Ref.scoreR X Wq K)))) (ix3 0 ⟨c.val * 16 + a.val, by omega⟩ n) := by
      rw [Layout.block_apply]
      refine congrArg _ ?_
      funext b
      match b with
      | ⟨0, _⟩ => rfl
      | ⟨1, _⟩ => rfl
      | ⟨2, _⟩ => rfl
    rw [hb, Ref.result_apply, outAt_apply]
    have hr : (⟨(c.val * 16 + a.val + 16) % 512, Nat.mod_lt _ (by decide)⟩ : Fin 512) = ⟨16 * ((c.val + 1) % 32) + a.val, by omega⟩ :=
      Fin.ext (by show (c.val * 16 + a.val + 16) % 512 = 16 * ((c.val + 1) % 32) + a.val; omega)
    have hd : ∀ d : Dev nD, acc0 m d = accIn X (Layout.block ⟨2, ![1024, 1024]⟩ ⟨2, ![1024, 32768]⟩ 1 32 d Wq)
        (Layout.block ⟨2, ![1024, 1024]⟩ ⟨2, ![32768, 1024]⟩ 0 32 d Wo) (Layout.block ⟨3, ![2048, 8, 128]⟩ ⟨3, ![2048, 256, 128]⟩ 1 32 d K)
        (Layout.block ⟨3, ![2048, 8, 128]⟩ ⟨3, ![2048, 256, 128]⟩ 1 32 d V) := fun d => by
      unfold acc0
      rw [xstg_eq, wqstg_eq, wostg_eq, kstg_eq, vstg_eq, hX, hq, ho, hk, hv]
    refine (sum_accIn X Wq Wo K V (acc0 m) hd _ n).trans ?_
    exact congrArg (fun i => Ref.yAt X Wq Wo K V i n) hr.symm
  funext j
  have hj : j = ix3 (0 : Fin 1) (j 1 : Fin 16) (j 2 : Fin 1024) := by
    funext b
    match b with
    | ⟨0, _⟩ => exact Fin.ext (by have h : (j 0).val < 1 := (j 0).isLt; show (j 0).val = 0; omega)
    | ⟨1, _⟩ => rfl
    | ⟨2, _⟩ => rfl
  rw [hj]
  exact hat _ _

end Whole

/-- The result array ends holding what the body stored. -/
theorem out_final (ρ : Dev nD → PrngReg) (c : Dev nD) : (dats m ρ 0 c).arrAt 5 cfg0.N = outAt m c := by
  refine (dats m ρ 0 c).arrAt_eq_of_after_last 5 t0_0 (by decide +kernel) _ fun j => ?_
  blk_simp
  have h : (dats m ρ 0 c).after 5 t0_0 = outAt m c := by dsimp only [dats]
  rw [h]

end Cert.RS
-- ==== Proof.GatherBody.lean ====
/-
# The kernel with the gather: its body at a symbolic step

The body of `Body` up to the reduce-scatter, over this program's own buffers, then the store of the own chunk into
the result and thirty-one steps of the gather, written as ONE step (`agStep`) repeated. What the operations compute
is that of `Body`; `body_eq` says the printed body is this one.
-/
module

public import proofs.«01_k».proof.Proof.Body
public import proofs.«01_k».proof.Proof.Gen.GatherIdeal
public import proofs.«01_k».proof.Proof.Gen.GatherIdeal.Skeleton
public import proofs.«01_k».proof.Proof.Gen.GatherIdeal.Launch

@[expose] public section

noncomputable section

namespace Cert.AG

open Cert.GatherIdeal Cert.GatherIdeal.Gen
open Cert.RS (qVal headVal projVal addVal outVal inb_slot inb_sem inb_head)
open Idealize.ShloMosaic
open Idealize.ShloMosaic.TcCoe
open Idealize.SL.Sem

variable {F : FTy → Type} [FloatOps F]

/-! ## The buffers -/

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .vmem S2048x8x128 .f32 := Memref.whole cc0_stg3_0
abbrev vM : Memref sig .tc .vmem S2048x8x128 .f32 := Memref.whole cc0_stg4_0
abbrev oM : Memref sig .tc .vmem S1x512x1024 .f32 := Memref.whole cc0_stg5_0
/-- The accumulator: this device's partial product, one chunk of 16 rows per device. -/
abbrev accM : Memref sig .tc .vmem S512x1024 .f32 := Memref.whole cc0_scratch0
/-- The landing slots, one per step. -/
abbrev rsM : Memref sig .tc .vmem S31x16x1024 .f32 := Memref.whole cc0_scratch1

/-- The accumulator's chunk sent at step `t`: number `d - t`. -/
abbrev sndM (d : Dev nD) (t : Fin 31) : Memref sig .tc .vmem S16x1024 .f32 :=
  accM.slice (Rect.unit (s := S512x1024) (k0_off1 d (BitVec.ofNat 32 t.val)) S16x1024.size (k0_off1_inb d t)) (fun _ => rfl)

/-- The landing slot of step `t`. -/
abbrev slotM (t : Fin 31) : Memref sig .tc .vmem S16x1024 .f32 :=
  (rsM.slice (Rect.unit (s := S31x16x1024) ![t.val, 0, 0] S1x16x1024.size (inb_slot t)) (fun _ => rfl)).squeeze S16x1024
    squeezes_S1x16x1024_S16x1024

/-- The semaphore a sender waits on at step `t`, and the one the receiver waits on. -/
abbrev sndS (t : Fin 31) : DmaSem sig :=
  ((cc0_scratch2.slice (Rect.unit (s := S31) ![t.val] S1.size (inb_sem t))).squeeze S_ squeezes_S1_S_).sem
abbrev rcvS (t : Fin 31) : DmaSem sig :=
  ((cc0_scratch3.slice (Rect.unit (s := S31) ![t.val] S1.size (inb_sem t))).squeeze S_ squeezes_S1_S_).sem

/-- The runtime's barrier semaphore. -/
abbrev barS : Sem sig := (SemArray.scalar (sig.barrier 0 rfl) : Sems sig S_).sem

/-- The rows of the accumulator added to at step `t`: chunk `d - t - 1`. -/
abbrev addR (d : Dev nD) (t : Fin 31) : Rect S512x1024 :=
  Rect.unit (s := S512x1024) (k0_off2 d (BitVec.ofNat 32 t.val)) S16x1024.size (k0_off2_inb d t)

/-- The landing slot of step `t` as it is loaded. -/
abbrev slotR (t : Fin 31) : Rect S31x16x1024 :=
  Rect.unit (s := S31x16x1024) ![t.val, 0, 0] S1x16x1024.size (inb_slot t)

/-- The device's own rows of the accumulator at the end: chunk `d + 1`. -/
abbrev ownR (d : Dev nD) : Rect S512x1024 :=
  Rect.unit (s := S512x1024) (k0_off3 d) S16x1024.size (k0_off3_inb d)

/-- Head `h` of the keys (and of the values). -/
abbrev headR (h : Fin 8) : Rect S2048x8x128 :=
  Rect.unit (s := S2048x8x128) ![0, h.val, 0] S2048x1x128.size (inb_head h)

/-- The result's chunk sent at step `t` of the gather, number `d + 1 - t`, and the same chunk on the receiver. -/
abbrev agM (d : Dev nD) (t : Fin 31) : Memref sig .tc .vmem S16x1024 .f32 :=
  (oM.slice (Rect.unit (s := S1x512x1024) (k0_off5 d (BitVec.ofNat 32 t.val)) S1x16x1024.size (k0_off5_inb d t)) (fun _ => rfl)).squeeze S16x1024
    squeezes_S1x16x1024_S16x1024

/-- The gather's semaphores of step `t`. -/
abbrev gsndS (t : Fin 31) : DmaSem sig :=
  ((cc0_scratch4.slice (Rect.unit (s := S31) ![t.val] S1.size (inb_sem t))).squeeze S_ squeezes_S1_S_).sem
abbrev grcvS (t : Fin 31) : DmaSem sig :=
  ((cc0_scratch5.slice (Rect.unit (s := S31) ![t.val] S1.size (inb_sem t))).squeeze S_ squeezes_S1_S_).sem

/-- The device's own rows of the result: chunk `d + 1`. -/
abbrev ownO (d : Dev nD) : Rect S1x512x1024 :=
  Rect.unit (s := S1x512x1024) (k0_off4 d) S1x16x1024.size (k0_off4_inb d)

/-! ## The program -/

abbrev Body (F : FTy → Type) [FloatOps F] := Prog (TpuEff nD τ sig (Elt F) Λ₀ .tc) PUnit

/-- One step of the reduce-scatter: send chunk `d - t` to the right, wait for the send and for the left
    neighbour's arrival, add what arrived to chunk `d - t - 1`. -/
def rsStep (d : Dev nD) (t : Fin 31) (K : Body F) : Body F :=
  .op (.enqueueDma (sndM d t) (.remote (Dev.tc (⟨k0_dev3 d, k0_dev3_lt d⟩ : Dev nD)) (slotM t) (.dma (sndS t))) (.dma (rcvS t))
    (View.wordExact_bits rfl) ((View.wordExact_bits rfl).reshape _ _) ⟨⟨rfl, Or.inl rfl⟩, trivial⟩) fun _ =>
  .op (.waitDma2 (sndS t) (slotM t) (sndM d t) ((View.wordExact_bits rfl).reshape _ _) (View.wordExact_bits rfl)) fun _ =>
  .op (.waitDma2 (rcvS t) (sndM d t) (slotM t) (View.wordExact_bits rfl) ((View.wordExact_bits rfl).reshape _ _)) fun _ =>
  .op (.load accM (addR d t).toLoadRect (View.loadsAt_vmem h_S16x1024)) fun a =>
  .op (.load rsM (slotR t).toLoadRect (View.loadsAt_vmem h_S1x16x1024)) fun b =>
  .op (.load accM (addR d t).toLoadRect (View.loadsAt_vmem h_S16x1024)) fun _ =>
  .op (.store accM (addR d t) (addVal a b) Finset.univ (View.stores_vmem_bits_univ h_S16x1024 rfl) (.inl rfl)) fun _ => K

/-- The last `k` steps. -/
def rsFrom (d : Dev nD) (K : Body F) : (k : ℕ) → k ≤ 31 → Body F
  | 0, _ => K
  | k + 1, h => rsStep d ⟨30 - k, by omega⟩ (rsFrom d K k (by omega))

/-- One step of the gather: send chunk `d + 1 - t` to the right, wait for the send and for the left neighbour's
    arrival. -/
def agStep (d : Dev nD) (t : Fin 31) (K : Body F) : Body F :=
  .op (.enqueueDma (agM d t) (.remote (Dev.tc (⟨k0_dev34 d, k0_dev34_lt d⟩ : Dev nD)) (agM d t) (.dma (gsndS t))) (.dma (grcvS t))
    ((View.wordExact_bits rfl).reshape _ _) ((View.wordExact_bits rfl).reshape _ _) ⟨⟨rfl, Or.inl rfl⟩, trivial⟩) fun _ =>
  .op (.waitDma2 (gsndS t) (agM d t) (agM d t) ((View.wordExact_bits rfl).reshape _ _) ((View.wordExact_bits rfl).reshape _ _)) fun _ =>
  .op (.waitDma2 (grcvS t) (agM d t) (agM d t) ((View.wordExact_bits rfl).reshape _ _) ((View.wordExact_bits rfl).reshape _ _)) fun _ => K

/-- The last `k` steps of the gather. -/
def agFrom (d : Dev nD) : (k : ℕ) → k ≤ 31 → Body F
  | 0, _ => .ret ⟨⟩
  | k + 1, h => agStep d ⟨30 - k, by omega⟩ (agFrom d k (by omega))

/-- Between the two: the device's own chunk goes into its rows of the result. -/
def ownStore (d : Dev nD) (K : Body F) : Body F :=
  .op (.load accM (ownR d).toLoadRect (View.loadsAt_vmem h_S16x1024)) fun a =>
  .op (.load oM (ownO d).toLoadRect (View.loadsAt_vmem h_S1x16x1024)) fun _ =>
  .op (.store oM (ownO d) (outVal a) Finset.univ (View.stores_vmem_bits_univ h_S1x16x1024 rfl) (.inl rfl)) fun _ => K

/-- Read head `h` of the keys and of the values. -/
def readHead (h : Fin 8) (K : Vec F S2048x1x128 .f32 → Vec F S2048x1x128 .f32 → Body F) : Body F :=
  .op (.load kM (headR h).toLoadRect (View.loadsAt_vmem h_S2048x1x128)) fun k =>
  .op (.load vM (headR h).toLoadRect (View.loadsAt_vmem h_S2048x1x128)) fun v => K k v

/-- The attention: read everything, store the partial product into the accumulator. -/
def attention (K : Body F) : Body F :=
  .op (.load xM (Rect.unit (s := S1x512x1024) ![0, 0, 0] S1x512x1024.size inb_S1x512x1024_S1x512x1024_0_0_0).toLoadRect
    (View.loadsAt_vmem h_S1x512x1024)) fun x =>
  .op (.load wqM (Rect.unit (s := S1024x1024) ![0, 0] S1024x1024.size inb_S1024x1024_S1024x1024_0_0).toLoadRect
    (View.loadsAt_vmem h_S1024x1024)) fun wq =>
  readHead 0 fun k0 v0 => readHead 1 fun k1 v1 => readHead 2 fun k2 v2 => readHead 3 fun k3 v3 =>
  readHead 4 fun k4 v4 => readHead 5 fun k5 v5 => readHead 6 fun k6 v6 => readHead 7 fun k7 v7 =>
  .op (.load woM (Rect.unit (s := S1024x1024) ![0, 0] S1024x1024.size inb_S1024x1024_S1024x1024_0_0).toLoadRect
    (View.loadsAt_vmem h_S1024x1024)) fun wo =>
  .op (.load accM (Rect.unit (s := S512x1024) ![0, 0] S512x1024.size inb_S512x1024_S512x1024_0_0).toLoadRect
    (View.loadsAt_vmem h_S512x1024)) fun _ =>
  .op (.store accM (Rect.unit (s := S512x1024) ![0, 0] S512x1024.size inb_S512x1024_S512x1024_0_0)
    (projVal (fun h => headVal (qVal x wq) h (![k0, k1, k2, k3, k4, k5, k6, k7] h) (![v0, v1, v2, v3, v4, v5, v6, v7] h)) wo) Finset.univ
    (View.stores_vmem_bits_univ h_S512x1024 rfl) (.inl rfl)) fun _ => K

/-- The body: the handshake with both neighbours, the attention, the reduce-scatter, the own chunk's store, the gather. -/
def bodyS : Body F :=
  .op .deviceId fun d =>
  .op (.semSignal ((⟨k0_dev1 d, k0_dev1_lt d⟩ : Dev nD), .tc) barS 1) fun _ =>
  .op (.semSignal ((⟨k0_dev2 d, k0_dev2_lt d⟩ : Dev nD), .tc) barS 1) fun _ =>
  .op (.semWait barS 2) fun _ =>
  attention (rsFrom d (ownStore d (agFrom d 31 (Nat.le_refl 31))) 31 (Nat.le_refl 31))

set_option maxRecDepth 65536 in
theorem body_eq :
    cc0_body (F := F) xM (Memref.isWhole_whole _) wqM (Memref.isWhole_whole _) woM (Memref.isWhole_whole _) kM (Memref.isWhole_whole _)
      vM (Memref.isWhole_whole _) oM (Memref.isWhole_whole _) accM (Memref.isWhole_whole _) rsM (Memref.isWhole_whole _)
      cc0_scratch2 cc0_scratch3 cc0_scratch4 cc0_scratch5 = bodyS := by
  rfl

end Cert.AG
-- ==== Proof.GatherProto.lean ====
/-
# The protocol between the devices, with the gather

As `Proto`, over this program's cells, all of whose four arrays of semaphores have a duty: array 2 the gather's
sends, array 3 its arrivals.

Chunks of the result are numbered from a device's own: `rot c s` is chunk `c + 1 - s`. Device `c` sends chunk
`rot c t` in step `t` of the gather and receives chunk `rot c (t + 1)`. Every device's result ends as `full`, the
same on all of them, so what a transfer of a chunk carries needs no index of a device. With its landing slots a
device hands its left neighbour the thirty-one chunks of its result that are not its own; the arrival cell of step
`t` gives the chunk back at `full`.
-/
module

public import proofs.«01_k».proof.Proof.GatherBody
public import proofs.«01_k».proof.Proof.Proto
public import proofs.«01_k».proof.Proof.Gen.GatherIdeal.Points
public import Idealize.ShloMosaic.Lib.Ring

@[expose] public section

noncomputable section

namespace Cert.AG

open Cert.GatherIdeal Cert.GatherIdeal.Gen
open Cert.RS (qVal headVal projVal addVal outVal inb_slot inb_sem inb_head headOf accIn stepVal accOf arrivalOf stp)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The ring -/

abbrev nxt (c : Dev nD) : Dev nD := RS.nxt c
abbrev prv (c : Dev nD) : Dev nD := RS.prv c

theorem prv_nxt (c : Dev nD) : prv (nxt c) = c := RS.prv_nxt c
theorem nxt_prv (c : Dev nD) : nxt (prv c) = c := RS.nxt_prv c

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev34_eq (c : Dev nD) : (⟨k0_dev34 c, k0_dev34_lt c⟩ : Dev nD) = nxt c := by revert c; decide

abbrev ring : Dev nD ≃ Dev nD := RS.ring

/-! ## The cells -/

/-- A device's cells: the barrier, and entry `t` of semaphore array `j`. -/
abbrev CK : Type := Unit ⊕ (Fin 4 × Fin 31)

set_option backward.proofsInPublic true in
/-- Entry `t` of array `j` among the DMA semaphores. -/
def dsem (j : Fin 4) (t : Fin 31) : DmaSem sig := ⟨6 + 31 * j.val + t.val, by have := j.isLt; have := t.isLt; show _ < 130; omega⟩

theorem sndS_eq (t : Fin 31) : sndS t = dsem 0 t := by revert t; decide
theorem rcvS_eq (t : Fin 31) : rcvS t = dsem 1 t := by revert t; decide
theorem gsndS_eq (t : Fin 31) : gsndS t = dsem 2 t := by revert t; decide
theorem grcvS_eq (t : Fin 31) : grcvS t = dsem 3 t := by revert t; decide

abbrev osem (jt : Fin 4 × Fin 31) : SemLoc sig := .dma (dsem jt.1 jt.2)
abbrev csem : CK → SemLoc sig
  | .inl _ => .reg barS
  | .inr jt => osem jt
abbrev kcell (ck : Dev nD × CK) : GSem nD τ sig := ((ck.1 : Thread nD τ), csem ck.2)

abbrev barCell (c : Dev nD) : GSem nD τ sig := ((c : Thread nD τ), .reg barS)
abbrev dCell (c : Dev nD) (j : Fin 4) (t : Fin 31) : GSem nD τ sig := ((c : Thread nD τ), .dma (dsem j t))

set_option backward.proofsInPublic true in
/-- Which cell a semaphore is. -/
def cls : SemLoc sig → Option CK
  | .reg s => if s = barS then some (.inl ()) else none
  | .dma q => if h : 6 ≤ q.val ∧ q.val < 130 then
      some (.inr (⟨(q.val - 6) / 31, by omega⟩, ⟨(q.val - 6) % 31, Nat.mod_lt _ (by decide)⟩)) else none

theorem cls_bar : cls (.reg barS) = some (.inl ()) := by dsimp only [cls]; exact if_pos rfl
theorem cls_d (j : Fin 4) (t : Fin 31) : cls (.dma (dsem j t)) = some (.inr (j, t)) := by
  have hj := j.isLt; have ht := t.isLt
  have h : 6 ≤ (dsem j t).val ∧ (dsem j t).val < 130 := by simp only [dsem]; omega
  dsimp only [cls]
  rw [dif_pos h]
  congr 3
  · apply Fin.ext; simp only [dsem]; omega
  · apply Fin.ext; simp only [dsem]; omega
theorem cls_csem (k : CK) : cls (csem k) = some k := by
  rcases k with ⟨⟩ | ⟨j, t⟩
  · exact cls_bar
  · exact cls_d j t

theorem csem_injective : Function.Injective csem := fun k k' h => by
  have := congrArg cls h; rw [cls_csem, cls_csem] at this; exact Option.some.inj this

/-- One transfer's credit. -/
abbrev N : ℕ := (slotM 0 : Memref sig .tc .vmem S16x1024 .f32).view.dmaCredit
theorem N_pos : 0 < N := View.dmaCredit_pos _ (by decide)

/-! ## Contents -/

section Contents
variable (c : Dev nD)

/-- The staged operands: this device's `x`, query weights, output weights, keys and values. -/
def xstg : (cc0_stg0_0 : Ref sig .tc).ty.Contents (Elt F) := (win0_0.blk (0 : Fin 1)).view.read (Elt F) (m ((c : Thread nD τ).loc main_arg0))
def wqstg : (cc0_stg1_0 : Ref sig .tc).ty.Contents (Elt F) := (win0_1.blk (0 : Fin 1)).view.read (Elt F) (m ((c : Thread nD τ).loc main_arg1))
def wostg : (cc0_stg2_0 : Ref sig .tc).ty.Contents (Elt F) := (win0_2.blk (0 : Fin 1)).view.read (Elt F) (m ((c : Thread nD τ).loc main_arg2))
def kstg : (cc0_stg3_0 : Ref sig .tc).ty.Contents (Elt F) := (win0_3.blk (0 : Fin 1)).view.read (Elt F) (m ((c : Thread nD τ).loc main_arg3))
def vstg : (cc0_stg4_0 : Ref sig .tc).ty.Contents (Elt F) := (win0_4.blk (0 : Fin 1)).view.read (Elt F) (m ((c : Thread nD τ).loc main_arg4))

/-- The device's partial product. -/
def acc0 : (cc0_scratch0 : Ref sig .tc).ty.Contents (Elt F) := accIn (xstg m c) (wqstg m c) (wostg m c) (kstg m c) (vstg m c)

end Contents

/-- The accumulators and the arrivals from the launch memory. -/
abbrev accAt (k : ℕ) (c : Dev nD) : (cc0_scratch0 : Ref sig .tc).ty.Contents (Elt F) := accOf (acc0 m) k c
abbrev arrival (c : Dev nD) (t : Fin 31) : Vec F S16x1024 .f32 := arrivalOf (acc0 m) c t

/-- A store into a step's rows of this program's accumulator is `RS.accStep`. -/
theorem accStep_eq (c : Dev nD) (t : Fin 31) (f : Vec F S512x1024 .f32) (w : Vec F S16x1024 .f32) :
    (accM.access (addR c t) : View sig .tc _ _ _).write (Elt F) f (stepVal (accM.view.readAt (Elt F) (addR c t).toLoadRect f) w) Finset.univ
      = RS.accStep c t f w := by
  funext i
  unfold RS.accStep
  by_cases hi : i ∈ (accM.access (addR c t) : View sig .tc _ _ _).setOn Finset.univ
  · obtain ⟨x, -, rfl⟩ := Finset.mem_map.mp hi
    rw [View.write_emb_of_mem (v := (accM.access (addR c t) : View sig .tc _ _ _)) (Val := Elt F) f _ (Finset.mem_univ x)]
    exact (View.write_emb_of_mem (v := (RS.accM.access (RS.addR c t) : View Cert.KernelIdeal.sig .tc _ _ _)) (Val := Elt F) f _ (Finset.mem_univ x)).symm
  · rw [View.write_of_not_mem _ _ _ hi]
    refine (View.write_of_not_mem (v := (RS.accM.access (RS.addR c t) : View Cert.KernelIdeal.sig .tc _ _ _)) (Val := Elt F) f _ _ fun h => hi ?_).symm
    obtain ⟨x, -, hx⟩ := Finset.mem_map.mp h
    exact Finset.mem_map.mpr ⟨x, Finset.mem_univ x, hx⟩

/-- The sum a step stores is `stepVal` of the chunk and what arrived. -/
theorem addVal_landed (t : Fin 31) (a : Vec F S16x1024 .f32) (fd : (cc0_scratch1 : Ref sig .tc).ty.Contents (Elt F)) (w : Vec F S16x1024 .f32) :
    addVal a ((rsM.access (slotR t)).read (Elt F) ((slotM t).view.write (Elt F) fd w Finset.univ)) = stepVal a w := by
  have h : shapeCast S16x1024 (rsM.view.readAt (Elt F) (slotR t).toLoadRect ((slotM t).view.write (Elt F) fd w Finset.univ)) shapeCasts_S1x16x1024_S16x1024 = w :=
    (View.read_write_univ (v := (slotM t).view) fd w)
  exact congrArg (stepVal a) h

/-! ## The result's chunks -/

set_option backward.proofsInPublic true in
/-- Chunk `c + 1 - s`. -/
def rot (c : Dev nD) (s : ℕ) : Fin 32 := ⟨(c.val + 1 + 31 * s) % 32, Nat.mod_lt _ (by decide)⟩

theorem rot_nxt (c : Dev nD) (s : ℕ) : rot (nxt c) (s + 1) = rot c s :=
  Fin.ext (by show ((c.val + 1) % 32 + 1 + 31 * (s + 1)) % 32 = (c.val + 1 + 31 * s) % 32; omega)
theorem rot_rot (c : Dev nD) (s : Fin 32) : rot c (rot c s.val).val = s :=
  Fin.ext (by show (c.val + 1 + 31 * ((c.val + 1 + 31 * s.val) % 32)) % 32 = s.val; omega)

/-- A device's numbering of the chunks. -/
def rotE (c : Dev nD) : Fin 32 ≃ Fin 32 := ⟨fun s => rot c s.val, fun s => rot c s.val, rot_rot c, rot_rot c⟩

theorem inb_chunk (q : Fin 32) : ∀ a, (![0, 16 * q.val, 0] : Fin 3 → Nat) a + S1x16x1024.size a ≤ S1x512x1024.size a := by revert q; decide

/-- Chunk `q` of the result. -/
abbrev chR (q : Fin 32) : Rect S1x512x1024 := Rect.unit (s := S1x512x1024) ![0, 16 * q.val, 0] S1x16x1024.size (inb_chunk q)

theorem off4_eq (c : Dev nD) : k0_off4 c = ![0, 16 * (rot c 0).val, 0] := by revert c; decide +kernel
theorem off5_eq (c : Dev nD) (t : Fin 31) : k0_off5 c (BitVec.ofNat 32 t.val) = ![0, 16 * (rot c t.val).val, 0] := by revert c t; decide +kernel

theorem chunk_set {off : Fin 3 → Nat} {inb : ∀ a, off a + S1x16x1024.size a ≤ S1x512x1024.size a} {q : Fin 32} (h : off = ![0, 16 * q.val, 0]) :
    (Rect.unit (s := S1x512x1024) off S1x16x1024.size inb).set = (chR q).set := by subst h; rfl

theorem own_set (c : Dev nD) : (oM.access (ownO c)).set = (chR (rot c 0)).set :=
  (View.set_slice_whole cc0_stg5_0 (ownO c)).trans (chunk_set (off4_eq c))
theorem ag_set (c : Dev nD) (t : Fin 31) : (agM c t).view.set = (chR (rot c t.val)).set :=
  ((Memref.set_view_squeeze (oM.slice (Rect.unit (s := S1x512x1024) (k0_off5 c (BitVec.ofNat 32 t.val)) S1x16x1024.size (k0_off5_inb c t)) (fun _ => rfl))
    squeezes_S1x16x1024_S16x1024).trans (View.set_slice_whole cc0_stg5_0 _)).trans (chunk_set (off5_eq c t))

theorem chunk_of_mem {q : Fin 32} {i : S1x512x1024.Idx} (h : i ∈ (chR q).set) : (i 1).val / 16 = q.val := by
  have h1 : 16 * q.val ≤ (i 1).val ∧ (i 1).val < 16 * q.val + 16 := Rect.mem_set_unit.mp h 1
  omega

set_option backward.proofsInPublic true in
/-- The device whose own rows element `i` of the result is in. -/
def owner (i : S1x512x1024.Idx) : Dev nD := ⟨((i 1).val / 16 + 31) % 32, Nat.mod_lt _ (by decide)⟩

theorem owner_of_mem {c : Dev nD} {i : S1x512x1024.Idx} (h : i ∈ (chR (rot c 0)).set) : owner i = c := by
  have h1 : (i 1).val / 16 = (c.val + 1 + 31 * 0) % 32 := chunk_of_mem h
  have h2 : c.val < 32 := c.isLt
  exact Fin.ext (by show ((i 1).val / 16 + 31) % 32 = c.val; omega)

/-- The result `f` after device `c` has stored its own chunk. -/
def ownWritten (c : Dev nD) (f : (cc0_stg5_0 : Ref sig .tc).ty.Contents (Elt F)) : (cc0_stg5_0 : Ref sig .tc).ty.Contents (Elt F) :=
  (oM.access (ownO c) : View sig .tc _ _ _).write (Elt F) f (outVal (accM.view.readAt (Elt F) (ownR c).toLoadRect (accAt m 31 c))) Finset.univ

/-- What every device's result ends as: each chunk as its owner stored it. -/
def full : (cc0_stg5_0 : Ref sig .tc).ty.Contents (Elt F) := fun i =>
  ownWritten m (owner i) (m (((owner i : Dev nD) : Thread nD τ).loc main_v1)) i

/-- A device's own rows after its store are those of `full`, whatever was there. -/
theorem ownWritten_eq (c : Dev nD) (f : (cc0_stg5_0 : Ref sig .tc).ty.Contents (Elt F)) (i : S1x512x1024.Idx) (h : i ∈ (chR (rot c 0)).set) :
    ownWritten m c f i = full m i := by
  unfold full
  rw [owner_of_mem h]
  rw [← own_set] at h
  obtain ⟨x, -, rfl⟩ := Finset.mem_map.mp h
  unfold ownWritten
  exact (View.write_emb_of_mem (v := (oM.access (ownO c) : View sig .tc _ _ _)) (Val := Elt F) _ _ (Finset.mem_univ x)).trans
    (View.write_emb_of_mem (v := (oM.access (ownO c) : View sig .tc _ _ _)) (Val := Elt F) _ _ (Finset.mem_univ x)).symm

/-- Writing what a view reads of `g` through the same view makes it `g` there. -/
theorem view_landed {sp : Space} {s : Shape} {e : EltTy} (v : View sig .tc sp s e) (f g : v.ref.ty.Contents (Elt F)) (i : v.ref.ty.shape.Idx) (h : i ∈ v.set) :
    v.write (Elt F) f (v.read (Elt F) g) Finset.univ i = g i := by
  obtain ⟨x, -, rfl⟩ := Finset.mem_map.mp h
  rw [View.write_emb_of_mem (v := v) (Val := Elt F) f _ (Finset.mem_univ x), View.read_apply]
  exact (cast_cast ..).trans (cast_eq ..)

/-- A chunk of `full` arriving at the same chunk of another result makes it `full` there. -/
theorem landed_eq (c : Dev nD) (t : Fin 31) (f : (cc0_stg5_0 : Ref sig .tc).ty.Contents (Elt F)) (i : S1x512x1024.Idx) (h : i ∈ (agM c t).view.set) :
    (agM c t).view.write (Elt F) f ((agM c t).view.read (Elt F) (full m)) Finset.univ i = full m i :=
  view_landed (agM c t).view f (full m) i h

/-! ## What is held -/

def slotPts (c : Dev nD) (t : Fin 31) (f : Buf (Elt F) ((slotM t).view.loc (c : Thread nD τ))) : sProp 𝕄 :=
  (slotM t).view.loc (c : Thread nD τ) ↦[(slotM t).view.set]{fullShare} f
def sndPts (c : Dev nD) (t : Fin 31) (f : Buf (Elt F) ((sndM c t).view.loc (c : Thread nD τ))) : sProp 𝕄 :=
  (sndM c t).view.loc (c : Thread nD τ) ↦[(sndM c t).view.set]{fullShare} f
def slotsAny (c : Dev nD) : sProp 𝕄 := bigSep Finset.univ fun t : Fin 31 => iprop(∃ f, slotPts c t f)
def sendPay (c : Dev nD) (t : Fin 31) : sProp 𝕄 := sndPts c t (accAt m t.val c)
def recvPay (c : Dev nD) (t : Fin 31) : sProp 𝕄 :=
  iprop(∃ fd, slotPts c t ((slotM t).view.write (Elt F) fd (arrival m c t) Finset.univ))

/-- Chunk `q` of device `d`'s result. -/
def outPts (d : Dev nD) (q : Fin 32) (f : Buf (Elt F) ((d : Thread nD τ).loc cc0_stg5_0)) : sProp 𝕄 :=
  ((d : Thread nD τ).loc cc0_stg5_0) ↦[(chR q).set]{fullShare} f
/-- All chunks of it but its own. -/
def outsAny (d : Dev nD) : sProp 𝕄 := bigSep Finset.univ fun t : Fin 31 => iprop(∃ f, outPts d (rot d (t.val + 1)) f)

/-- What the cell of index `jt` gives its device. -/
def payD (c : Dev nD) (jt : Fin 4 × Fin 31) : sProp 𝕄 := match jt.1 with
  | 0 => sendPay m c jt.2
  | 1 => recvPay m c jt.2
  | 2 => outPts c (rot c jt.2.val) (full m)
  | 3 => outPts c (rot c (jt.2.val + 1)) (full m)

/-! ## The schedule -/

set_option backward.proofsInPublic true in
def rd : Rounds.Schedule (GSem nD τ sig) Bool 𝕄 where
  duties g r := if r = 0 ∧ g.1.2 = .tc then
      (match cls g.2 with
        | none => ∅
        | some (.inl _) => Finset.univ
        | some (.inr _) => {false})
    else ∅
  unitless _ := False
  amount g _ _ := match cls g.2 with
    | some (.inr _) => N
    | _ => 1
  payload g _ d := match cls g.2 with
    | none => iprop(emp)
    | some (.inl _) => if d then iprop(slotsAny (nxt g.1.1) ∗ outsAny (nxt g.1.1)) else iprop(emp)
    | some (.inr jt) => payD m g.1.1 jt
  amount_pos g _ _ _ := by
    split
    · exact N_pos
    · exact Nat.one_pos

instance slotPts_storable (c : Dev nD) (t f) : BI.Storable (upEmb : UEmb _ 𝕄) (slotPts (F := F) c t f) := by unfold slotPts; infer_instance
instance sndPts_storable (c : Dev nD) (t f) : BI.Storable (upEmb : UEmb _ 𝕄) (sndPts (F := F) c t f) := by unfold sndPts; infer_instance
instance outPts_storable (c : Dev nD) (q f) : BI.Storable (upEmb : UEmb _ 𝕄) (outPts (F := F) c q f) := by unfold outPts; infer_instance
instance payD_storable (c : Dev nD) (jt : Fin 4 × Fin 31) : BI.Storable (upEmb : UEmb _ 𝕄) (payD (F := F) m c jt) := by
  unfold payD sendPay recvPay
  split <;> infer_instance

instance rd_payload_storable (g : GSem nD τ sig) (r : ℕ) (d : Bool) : BI.Storable (upEmb : UEmb _ 𝕄) ((rd (F := F) m).payload g r d) := by
  dsimp only [rd]
  unfold slotsAny outsAny
  (repeat' split) <;> infer_instance

section Sched
variable (c : Dev nD) (t : Fin 31) (d : Bool)

theorem duties_bar : (rd (F := F) m).duties (barCell c) 0 = Finset.univ := by
  dsimp only [rd]; rw [if_pos ⟨rfl, rfl⟩, cls_bar]
theorem duties_d (j : Fin 4) : (rd (F := F) m).duties (dCell c j t) 0 = {false} := by
  dsimp only [rd]; rw [if_pos ⟨rfl, rfl⟩, cls_d]
theorem duties_later (g : GSem nD τ sig) : ∀ r, 1 ≤ r → (rd (F := F) m).duties g r = ∅ :=
  fun r hr => by dsimp only [rd]; rw [if_neg fun h => by omega]

theorem amount_bar : (rd (F := F) m).amount (barCell c) 0 d = 1 := by dsimp only [rd]; rw [cls_bar]
theorem amount_d (j : Fin 4) : (rd (F := F) m).amount (dCell c j t) 0 d = N := by dsimp only [rd]; rw [cls_d]

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d (j : Fin 4) : (rd (F := F) m).expect (dCell c j t) 0 = N := by
  unfold Schedule.expect Schedule.amountOf; rw [duties_d, Finset.sum_singleton, amount_d]

theorem payload_bar_true : (rd (F := F) m).payload (barCell c) 0 true = iprop(slotsAny (nxt c) ∗ outsAny (nxt c)) := by
  dsimp only [rd]; rw [cls_bar]; exact if_pos rfl
theorem payload_bar_false : (rd (F := F) m).payload (barCell c) 0 false = iprop(emp) := by
  dsimp only [rd]; rw [cls_bar]; exact if_neg Bool.false_ne_true
theorem payload_d (j : Fin 4) : (rd (F := F) m).payload (dCell c j t) 0 d = payD m c (j, t) := by
  dsimp only [rd]; rw [cls_d]

theorem rest_bar : bigSep ((rd (F := F) m).duties (barCell c) 0 \ ∅) (fun d => (rd (F := F) m).payload (barCell c) 0 d)
    = iprop(emp ∗ slotsAny (nxt c) ∗ outsAny (nxt c)) := by
  rw [Finset.sdiff_empty, duties_bar, bigSep_univ_eq_bigSepL [false, true] (by decide) (by decide), bigSepL_cons_cons, bigSepL_singleton,
    payload_bar_false, payload_bar_true]
  rfl
theorem rest_d (j : Fin 4) : bigSep ((rd (F := F) m).duties (dCell c j t) 0 \ ∅) (fun d => (rd (F := F) m).payload (dCell c j t) 0 d) = payD m c (j, t) := by
  rw [Finset.sdiff_empty, duties_d, bigSep_singleton, payload_d]

end Sched

/-! ## What a device owes; the levels -/

/-- On top of `O`, with `k` steps to go: one transfer's credit to the right neighbour's cell of array `j` of each. -/
def owedOn (c : Dev nD) (j : Fin 4) (O : CellTallies nD τ sig Unit) : (k : ℕ) → k ≤ 31 → CellTallies nD τ sig Unit
  | 0, _ => O
  | k + 1, h => owedOn c j O k (by omega) + tallyAt (dCell (nxt c) j (stp k h)) () N

/-- With `k` steps of the gather to go; with `k` steps of the reduce-scatter and all of the gather to go. -/
abbrev owedAg (c : Dev nD) (k : ℕ) (h : k ≤ 31) : CellTallies nD τ sig Unit := owedOn c 3 0 k h
abbrev owedRs (c : Dev nD) (k : ℕ) (h : k ≤ 31) : CellTallies nD τ sig Unit := owedOn c 1 (owedAg c 31 (Nat.le_refl 31)) k h

def O₂ (c : Dev nD) : CellTallies nD τ sig Unit := owedRs c 31 (Nat.le_refl 31)
def O₁ (c : Dev nD) : CellTallies nD τ sig Unit := O₂ c + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier cells at 1, the arrival cell of step `t` at `2 + t`, of the gather's step `t` at `33 + t`, everything else at 0. -/
def lv (g : GSem nD τ sig) (_ : Unit) : ℕ := match cls g.2 with
  | some (.inl _) => 1
  | some (.inr jt) => if jt.1.val = 1 then 2 + jt.2.val else if jt.1.val = 3 then 33 + jt.2.val else 0
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [cls_bar]
theorem lv_snd (c : Dev nD) (t : Fin 31) : lv (dCell c 0 t) () = 0 := by unfold lv; rw [cls_d]; exact (if_neg Nat.zero_ne_one).trans (if_neg (show ¬ (0 : Fin 4).val = 3 by decide))
theorem lv_rcv (c : Dev nD) (t : Fin 31) : lv (dCell c 1 t) () = 2 + t.val := by unfold lv; rw [cls_d]; exact if_pos rfl
theorem lv_gsnd (c : Dev nD) (t : Fin 31) : lv (dCell c 2 t) () = 0 := by unfold lv; rw [cls_d]; exact (if_neg (show ¬ (2 : Fin 4).val = 1 by decide)).trans (if_neg (show ¬ (2 : Fin 4).val = 3 by decide))
theorem lv_grcv (c : Dev nD) (t : Fin 31) : lv (dCell c 3 t) () = 33 + t.val := by unfold lv; rw [cls_d]; exact (if_neg (show ¬ (3 : Fin 4).val = 1 by decide)).trans (if_pos rfl)

theorem tallyAt_pos {g g' : GSem nD τ sig} {n : ℕ} {u : Unit} (h : 0 < tallyAt (Ix := Unit) g () n g' u) : g' = g := by
  rw [tallyAt_apply] at h
  by_contra hn
  rw [if_neg (fun h' => hn h'.1)] at h
  exact Nat.lt_irrefl 0 h

/-- What is owed on top of `O` with `k` steps to go is owed to arrival cells of those steps. -/
theorem owedOn_pos {c : Dev nD} {j : Fin 4} {O : CellTallies nD τ sig Unit} {g : GSem nD τ sig} {u : Unit} : ∀ (k : ℕ) (hk : k ≤ 31), 0 < owedOn c j O k hk g u →
    (∃ t : Fin 31, 31 - k ≤ t.val ∧ g = dCell (nxt c) j t) ∨ 0 < O g u
  | 0, _, h => .inr h
  | k + 1, hk, h => by
      rw [owedOn, Pi.add_apply, Finsupp.add_apply] at h
      rcases Nat.eq_zero_or_pos (owedOn c j O k (by omega) g u) with h0 | h0
      · rw [h0, Nat.zero_add] at h
        exact .inl ⟨stp k hk, by simp only [stp]; omega, tallyAt_pos h⟩
      · rcases owedOn_pos k _ h0 with ⟨t, h1, h2⟩ | h1
        · exact .inl ⟨t, by omega, h2⟩
        · exact .inr h1

theorem owedAg_pos {c : Dev nD} {g : GSem nD τ sig} {u : Unit} (k : ℕ) (hk : k ≤ 31) (h : 0 < owedAg c k hk g u) :
    ∃ t : Fin 31, 31 - k ≤ t.val ∧ g = dCell (nxt c) 3 t :=
  (owedOn_pos k hk h).resolve_right (Nat.lt_irrefl 0)

theorem owedRs_pos {c : Dev nD} {g : GSem nD τ sig} {u : Unit} (k : ℕ) (hk : k ≤ 31) (h : 0 < owedRs c k hk g u) :
    (∃ t : Fin 31, 31 - k ≤ t.val ∧ g = dCell (nxt c) 1 t) ∨ ∃ t : Fin 31, g = dCell (nxt c) 3 t := by
  rcases owedOn_pos k hk h with h1 | h1
  · exact .inl h1
  · obtain ⟨t, -, h2⟩ := owedAg_pos 31 (Nat.le_refl 31) h1
    exact .inr ⟨t, h2⟩

theorem O₀_pos {c : Dev nD} {g : GSem nD τ sig} {u : Unit} (h : 0 < O₀ c g u) :
    (∃ t : Fin 31, g = dCell (nxt c) 1 t) ∨ (∃ t : Fin 31, g = dCell (nxt c) 3 t) ∨ ∃ d, g = barCell d := by
  unfold O₀ O₁ at h
  rw [Pi.add_apply, Finsupp.add_apply, Pi.add_apply, Finsupp.add_apply] at h
  rcases Nat.eq_zero_or_pos (O₂ c g u) with h0 | h0
  · rcases Nat.eq_zero_or_pos (tallyAt (Ix := Unit) (barCell (nxt c)) () 1 g u) with h1 | h1
    · rw [h0, h1] at h; exact .inr (.inr ⟨_, tallyAt_pos (by simpa using h)⟩)
    · exact .inr (.inr ⟨_, tallyAt_pos h1⟩)
  · rcases owedRs_pos 31 (Nat.le_refl 31) h0 with ⟨t, -, h2⟩ | h2
    · exact .inl ⟨t, h2⟩
    · exact .inr (.inl h2)

/-- A wait at level `n` of the device's own is allowed while only higher cells are owed. -/
theorem mayWait_of {c : Dev nD} {sm : SemLoc sig} {O : CellTallies nD τ sig Unit} (n : ℕ) (hn : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- The wait of level `n` with `k` steps of the reduce-scatter to go; with `k` steps of the gather to go. -/
theorem mayWait_rs {c : Dev nD} {sm : SemLoc sig} (k : ℕ) (hk : k ≤ 31) (hn : lv ((c : Thread nD τ), sm) () + k < 33) :
    (levAts L lv : sProp 𝕄) ⊢ MayWait (c : Thread nD τ) sm () (owedRs c k hk) :=
  mayWait_of (lv ((c : Thread nD τ), sm) ()) (Nat.le_refl _) fun g u hg => by
    rcases owedRs_pos k hk hg with ⟨t, h1, rfl⟩ | ⟨t, rfl⟩
    · exact ⟨rfl, by rw [lv_rcv]; omega⟩
    · exact ⟨rfl, by rw [lv_grcv]; omega⟩
theorem mayWait_ag {c : Dev nD} {sm : SemLoc sig} (k : ℕ) (hk : k ≤ 31) (hn : lv ((c : Thread nD τ), sm) () + k < 64) :
    (levAts L lv : sProp 𝕄) ⊢ MayWait (c : Thread nD τ) sm () (owedAg c k hk) :=
  mayWait_of (lv ((c : Thread nD τ), sm) ()) (Nat.le_refl _) fun g u hg => by
    obtain ⟨t, h1, rfl⟩ := owedAg_pos k hk hg
    exact ⟨rfl, by rw [lv_grcv]; omega⟩

theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  have h0 : lv ((c : Thread nD τ), .dma q) () = 0 := by
    unfold lv
    rw [show cls (.dma q) = none from dif_neg fun h => by omega]
  rcases hO with rfl | rfl
  · refine mayWait_of 0 (Nat.le_of_eq h0) fun g u hg => ?_
    rcases O₀_pos hg with ⟨t, rfl⟩ | ⟨t, rfl⟩ | ⟨d, rfl⟩
    · exact ⟨rfl, by rw [lv_rcv]; omega⟩
    · exact ⟨rfl, by rw [lv_grcv]; omega⟩
    · exact ⟨rfl, by rw [lv_bar]; decide⟩
  · rw [MayWait_zero]; iintro -; iempintro

end Cert.AG
-- ==== Proof.GatherStep.lean ====
/-
# One step of either phase, and all of them, with the gather

`wp_rsStep` and `wp_rsFrom` as in `Step`, over this program's cells; `wp_agStep` and `wp_agFrom` the same for the
gather, whose steps leave the accumulator alone and pass chunks of `full` on.
-/
module

public import proofs.«01_k».proof.Proof.GatherProto
public import proofs.«01_k».proof.Proof.Step

@[expose] public section

noncomputable section

namespace Cert.AG

open Cert.GatherIdeal Cert.GatherIdeal.Gen
open Cert.RS (qVal headVal projVal addVal outVal inb_slot inb_sem inb_head headOf accIn stepVal accOf arrivalOf stp rest rest_all)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device may use: all cells' invariants, all marks of round 0 -/

def records (K : Dev nD × CK → ℕ) : sProp 𝕄 :=
  iprop((bigSep Finset.univ fun ck : Dev nD × CK => cellInv ER (rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (rd m) (K ck) (kcell ck) := by
  have h : (bigSep Finset.univ fun ck : Dev nD × CK => (cellInv ER (rd m) (K ck) (kcell ck) : sProp 𝕄)) ⊢ cellInv ER (rd m) (K ck) (kcell ck) :=
    bigSep_elim (Finset.mem_univ ck)
  unfold records
  iintro ⟨H, -⟩
  iapply h; iexact H
theorem reached_at (K : Dev nD × CK → ℕ) (ck : Dev nD × CK) : records m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records
  iintro ⟨-, H⟩
  iapply h; iexact H

/-! ## A step's holdings -/

/-- What step `t` of the reduce-scatter starts from: the device's positions at the two cells of index `t`, the tokens
    of the two duties it pays, the credit of its arrival cell, and the right neighbour's slot. -/
def todo (c : Dev nD) (t : Fin 31) : sProp 𝕄 :=
  iprop((atPos ER (dCell c 0 t) 0 ∅ 0 ∗ atPos ER (dCell c 1 t) 0 ∅ 0)
    ∗ dutyTok ER (dCell c 0 t) 0 false ∗ dutyTok ER (dCell (nxt c) 1 t) 0 false
    ∗ cred (tallyAt (dCell c 1 t) () N) ∗ ∃ f, slotPts (nxt c) t f)

/-- What it leaves: the two cells' counters at zero, and the device's own slot. -/
def done (c : Dev nD) (t : Fin 31) : sProp 𝕄 :=
  iprop((semVal (dCell c 0 t) 0 ∗ semVal (dCell c 1 t) 0) ∗ ∃ f, slotPts c t f)

/-- The same of the gather's step `t`: in place of the slot, the chunk sent on the right neighbour's result … -/
def todoG (c : Dev nD) (t : Fin 31) : sProp 𝕄 :=
  iprop((atPos ER (dCell c 2 t) 0 ∅ 0 ∗ atPos ER (dCell c 3 t) 0 ∅ 0)
    ∗ dutyTok ER (dCell c 2 t) 0 false ∗ dutyTok ER (dCell (nxt c) 3 t) 0 false
    ∗ cred (tallyAt (dCell c 3 t) () N) ∗ ∃ f, outPts (nxt c) (rot c t.val) f)

/-- … and the chunk sent on the device's own. -/
def doneG (c : Dev nD) (t : Fin 31) : sProp 𝕄 :=
  iprop((semVal (dCell c 2 t) 0 ∗ semVal (dCell c 3 t) 0) ∗ outPts c (rot c t.val) (full m))

/-- The accumulator at contents `f`. -/
def accPts (c : Dev nD) (f : (cc0_scratch0 : Ref sig .tc).ty.Contents (Elt F)) : sProp 𝕄 :=
  ((c : Thread nD τ).loc cc0_scratch0) ↦{fullShare} f

/-! ## The transfer and the waits -/

section Step
variable (K : Dev nD × CK → ℕ) (c : Dev nD) (t : Fin 31)

theorem arrival_nxt : arrival m (nxt c) t = (sndM c t).view.read (Elt F) (accAt m t.val c) := by unfold arrival arrivalOf; rw [RS.prv_nxt]; rfl

/-- The transfer of step `t` (its device and its two semaphores given up to equality). -/
theorem wp_send_step (n : Dev nD) (hn : n = nxt c) (q₀ q₁ : DmaSem sig) (h₀ : q₀ = dsem 0 t) (h₁ : q₁ = dsem 1 t)
    {hsc : (slotM t : Memref sig (Dev.tc n : Thread nD τ).2.kind .vmem S16x1024 .f32).view.ref.isScScratch = false}
    {hsrc : (sndM c t).view.WordExact} {hdst : (slotM t : Memref sig .tc .vmem S16x1024 .f32).view.WordExact}
    {hsem : DmaTarget.Typed .vmem (.dma q₁) (.remote (Dev.tc n : Thread nD τ) (slotM t) (.dma q₀) hsc)}
    {α : Type} {Q : α → sProp 𝕄} {k : PUnit → Prog (TpuEff nD τ sig (Elt F) Λ₀ .tc) α}
    (fn : Buf (Elt F) ((slotM t).view.loc (nxt c : Thread nD τ))) (O : CellTallies nD τ sig Unit) (W : Waits sig Unit) :
    iprop(cellInv ER (rd m) (K (c, .inr (0, t))) (dCell c 0 t) ∗ cellInv ER (rd m) (K (nxt c, .inr (1, t))) (dCell (nxt c) 1 t)
        ∗ sndPts c t (accAt m t.val c) ∗ slotPts (nxt c) t fn
        ∗ owes (c : Thread nD τ) (O + tallyAt (dCell (nxt c) 1 t) () N) W
        ∗ dutyTok ER (dCell c 0 t) 0 false ∗ reached ER (dCell c 0 t) 0
        ∗ dutyTok ER (dCell (nxt c) 1 t) 0 false ∗ reached ER (dCell (nxt c) 1 t) 0)
      ⊢ iprop(((cred (tallyAt (dCell c 0 t) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndM c t) (.remote (Dev.tc n : Thread nD τ) (slotM t) (.dma q₀) hsc) (.dma q₁) hsrc hdst hsem) k) Q) := by
  subst hn; subst h₀; subst h₁
  unfold sndPts slotPts
  exact Rounds.wp_send_pointsTo 𝒱₀ ER (rd m) (c : Thread nD τ) none (κ₁ := K (c, .inr (0, t))) (κ₂ := K (nxt c, .inr (1, t)))
    (r₁ := 0) (r₂ := 0) (d₁ := false) (d₂ := false) (fd := fn)
    (by rw [duties_d]; exact Finset.mem_singleton_self _) (by rw [duties_d]; exact Finset.mem_singleton_self _)
    () () N rfl (amount_d m c t false 0) (amount_d m (nxt c) t false 1) O rfl (W := W)
    (by rw [payload_d]; exact BI.Entails.refl _)
    (by rw [payload_d]; unfold payD recvPay slotPts; dsimp only; rw [arrival_nxt]; iintro H; iexists fn; iexact H)

/-- A chunk of the result as the gather's transfers name it. -/
theorem outPts_ag (d : Dev nD) (f : Buf (Elt F) ((d : Thread nD τ).loc cc0_stg5_0)) :
    outPts d (rot c t.val) f = (((agM c t).view.loc (d : Thread nD τ)) ↦[(agM c t).view.set]{fullShare} f : sProp 𝕄) :=
  congrArg (fun S => (((d : Thread nD τ).loc cc0_stg5_0) ↦[S]{fullShare} f : sProp 𝕄)) (ag_set c t).symm

/-- What the gather's transfer of step `t` carries, at the sender and where it lands. -/
theorem pay_gsnd : (((agM c t).view.loc (c : Thread nD τ)) ↦[(agM c t).view.set]{fullShare} full m : sProp 𝕄)
    ⊢ (rd (F := F) m).payload (dCell c 2 t) 0 false := by
  rw [payload_d, ← outPts_ag c t c]; exact BI.Entails.refl _
theorem pay_grcv (fn : Buf (Elt F) ((agM c t).view.loc (nxt c : Thread nD τ))) :
    (((agM c t).view.loc (nxt c : Thread nD τ)) ↦[(agM c t).view.set]{fullShare} (agM c t).view.write (Elt F) fn ((agM c t).view.read (Elt F) (full m)) Finset.univ : sProp 𝕄)
      ⊢ (rd (F := F) m).payload (dCell (nxt c) 3 t) 0 false := by
  rw [payload_d, pointsTo_congr fun i hi => landed_eq m c t fn i hi, ← outPts_ag c t (nxt c), ← rot_nxt]
  exact BI.Entails.refl _

/-- The gather's transfer of step `t`. -/
theorem wp_send_gather (n : Dev nD) (hn : n = nxt c) (q₀ q₁ : DmaSem sig) (h₀ : q₀ = dsem 2 t) (h₁ : q₁ = dsem 3 t)
    {hsc : (agM c t : Memref sig (Dev.tc n : Thread nD τ).2.kind .vmem S16x1024 .f32).view.ref.isScScratch = false}
    {hsrc : (agM c t).view.WordExact} {hdst : (agM c t : Memref sig .tc .vmem S16x1024 .f32).view.WordExact}
    {hsem : DmaTarget.Typed .vmem (.dma q₁) (.remote (Dev.tc n : Thread nD τ) (agM c t) (.dma q₀) hsc)}
    {α : Type} {Q : α → sProp 𝕄} {k : PUnit → Prog (TpuEff nD τ sig (Elt F) Λ₀ .tc) α}
    (fn : Buf (Elt F) ((nxt c : Thread nD τ).loc cc0_stg5_0)) (O : CellTallies nD τ sig Unit) (W : Waits sig Unit) :
    iprop(cellInv ER (rd m) (K (c, .inr (2, t))) (dCell c 2 t) ∗ cellInv ER (rd m) (K (nxt c, .inr (3, t))) (dCell (nxt c) 3 t)
        ∗ outPts c (rot c t.val) (full m) ∗ outPts (nxt c) (rot c t.val) fn
        ∗ owes (c : Thread nD τ) (O + tallyAt (dCell (nxt c) 3 t) () N) W
        ∗ dutyTok ER (dCell c 2 t) 0 false ∗ reached ER (dCell c 2 t) 0
        ∗ dutyTok ER (dCell (nxt c) 3 t) 0 false ∗ reached ER (dCell (nxt c) 3 t) 0)
      ⊢ iprop(((cred (tallyAt (dCell c 2 t) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (agM c t) (.remote (Dev.tc n : Thread nD τ) (agM c t) (.dma q₀) hsc) (.dma q₁) hsrc hdst hsem) k) Q) := by
  subst hn; subst h₀; subst h₁
  rw [outPts_ag c t c, outPts_ag c t (nxt c)]
  refine Rounds.wp_send_pointsTo 𝒱₀ ER (rd m) (c : Thread nD τ) none (κ₁ := K (c, .inr (2, t))) (κ₂ := K (nxt c, .inr (3, t)))
    (c' := (nxt c : Thread nD τ)) (src := agM c t) (dst := agM c t) (fs := full m) (q := fullShare) (fd := fn)
    (r₁ := 0) (r₂ := 0) (d₁ := false) (d₂ := false) ?_ ?_ () () N ?_ ?_ ?_ O ?_ (W := W) (pay_gsnd m c t) (pay_grcv m c t fn)
  · rw [duties_d]; exact Finset.mem_singleton_self _
  · rw [duties_d]; exact Finset.mem_singleton_self _
  · rfl
  · exact amount_d m c t false 2
  · exact amount_d m (nxt c) t false 3
  · rfl

/-- A wait for the whole of a send or an arrival cell's round. -/
theorem wp_wait_step (j : Fin 4) (q : DmaSem sig) (hq : q = dsem j t) (P : sProp 𝕄)
    (hP : payD m c (j, t) = P)
    {s₁ s₂ : Shape} {e₁ e₂ : EltTy} {src : Memref sig .tc .vmem s₁ e₁} {dst : Memref sig .tc .vmem s₂ e₂}
    {hsrc : src.view.WordExact} {hdst : dst.view.WordExact} (hdN : dst.view.dmaCredit = N)
    {α : Type} {Q : α → sProp 𝕄} {k : PUnit → Prog (TpuEff nD τ sig (Elt F) Λ₀ .tc) α}
    (O : CellTallies nD τ sig Unit) (W : Waits sig Unit) (hO : (levAts L lv : sProp 𝕄) ⊢ MayWait (c : Thread nD τ) (.dma (dsem j t)) () O) :
    iprop(cellInv ER (rd m) (K (c, .inr (j, t))) (dCell c j t) ∗ levAts L lv ∗ cred (tallyAt (dCell c j t) () N) ∗ owes (c : Thread nD τ) O W
        ∗ atPos ER (dCell c j t) 0 ∅ 0)
      ⊢ iprop(((owes (c : Thread nD τ) O (insert (SemLoc.dma (dsem j t), ()) W) ∗ semVal (dCell c j t) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  iintro ⟨#HI, Hlev, Hc, HO, Hat⟩ Hk
  iapply (Rounds.wp_wait_rest_token 𝒱₀ ER (rd m) (c : Thread nD τ) none (κ := K (c, .inr (j, t)))
      (wpE_waitDma2_eq 𝒱₀ (c : Thread nD τ) none Set.univ) (Set.mem_univ _) () (O := O) (W := W) (R := 0) (m := 0) (T := ∅)
      (by rw [Nat.zero_add, expect_d]; exact hdN)) $$ [Hc HO Hat Hlev]
  · isplitr; · iexact HI
    isplitl [Hc]; · rw [hdN]; iexact Hc
    isplitl [HO]; · iexact HO
    isplitl [Hlev]; · iapply hO; iexact Hlev
    iexact Hat
  iintro ⟨HO, Hat, -, Hpay⟩
  ihave HP := (Entails.of_eq ((rest_d m c t j).trans hP)) $$ Hpay
  imod (Rounds.cell_close ER (rd m) (Set.mem_univ (K (c, .inr (j, t)))) (fun h => h) (R := 0 + 1) (duties_later m (dCell c j t))) $$ [Hat] with Hz
  · isplitr; · iexact HI
    iexact Hat
  iapply Hk
  isplitl [HO]; · iexact HO
  isplitl [Hz] <;> iassumption

/-- The chunk sent, taken out of the accumulator. -/
theorem acc_split (f : (cc0_scratch0 : Ref sig .tc).ty.Contents (Elt F)) :
    accPts c f ⊣⊢ iprop(sndPts c t f ∗ ((c : Thread nD τ).loc cc0_scratch0) ↦[Finset.univ \ (sndM c t).view.set]{fullShare} f) :=
  pointsTo_split_subset (Finset.subset_univ _)

theorem credit_snd : (sndM c t).view.dmaCredit = N := rfl
theorem credit_slot : (slotM t : Memref sig .tc .vmem S16x1024 .f32).view.dmaCredit = N := rfl

theorem credit_ag : (agM c t : Memref sig .tc .vmem S16x1024 .f32).view.dmaCredit = N := rfl

theorem slot_set : (slotM t).view.set = (rsM.access (slotR t)).set :=
  Memref.set_view_squeeze (rsM.slice (slotR t) (fun _ => rfl)) squeezes_S1x16x1024_S16x1024

set_option maxHeartbeats 400000 in
/-- ONE STEP. -/
theorem wp_rsStep (k : ℕ) (hk : k + 1 ≤ 31) (ht : t = stp k hk) (W : Waits sig Unit) (KP : Body F) (Q : PUnit → sProp 𝕄) :
    iprop(records m K ∗ levAts L lv ∗ todo c t ∗ accPts c (accAt m t.val c) ∗ owes (c : Thread nD τ) (owedRs c (k + 1) hk) W
        ∗ (∀ W', (done c t ∗ accPts c (accAt m (t.val + 1) c) ∗ owes (c : Thread nD τ) (owedRs c k (by omega)) W')
            -∗ wp frame (wpE (defs₀ (F := F)) 𝒱₀ (c : Thread nD τ) none) Set.univ KP Q))
      ⊢ wp frame (wpE (defs₀ (F := F)) 𝒱₀ (c : Thread nD τ) none) Set.univ (rsStep c t KP) Q := by
  unfold todo done rsStep
  iintro ⟨#HR, #Hlev, ⟨⟨Ha0, Ha1⟩, Ht0, Ht1, Hc1, ⟨%fn, Hfn⟩⟩, Hacc, HO, Hk⟩
  ihave #HI0 := (inv_at m K (c, .inr (0, t))) $$ HR
  ihave #HI1 := (inv_at m K (c, .inr (1, t))) $$ HR
  ihave #HIN := (inv_at m K (nxt c, .inr (1, t))) $$ HR
  ihave #Hr0 := (reached_at m K (c, .inr (0, t))) $$ HR
  ihave #HrN := (reached_at m K (nxt c, .inr (1, t))) $$ HR
  ihave Hs := (acc_split c t _).1 $$ Hacc
  icases Hs with ⟨Hsnd, Hrem⟩
  iapply (wp_send_step m K c t _ (dev3_eq c) _ _ (sndS_eq t) (rcvS_eq t) fn (owedRs c k (by omega)) W) $$ [Hsnd Hfn HO Ht0 Ht1]
  · isplitr; · iexact HI0
    isplitr; · iexact HIN
    isplitl [Hsnd]; · iexact Hsnd
    isplitl [Hfn]; · iexact Hfn
    isplitl [HO]; · subst ht; iexact HO
    isplitl [Ht0]; · iexact Ht0
    isplitr; · iexact Hr0
    isplitl [Ht1]; · iexact Ht1
    iexact HrN
  iintro ⟨Hc0, HO⟩
  iapply (wp_wait_step m K c t 0 (sndS t) (sndS_eq t) (sendPay m c t) rfl (src := slotM t) (dst := sndM c t) (credit_snd c t) (owedRs c k (by omega)) W
      (mayWait_rs k (by omega) (by rw [lv_snd]; omega))) $$ [Hc0 HO Ha0]
  · isplitr; · iexact HI0
    isplitr; · iexact Hlev
    isplitl [Hc0]; · iexact Hc0
    isplitl [HO]; · iexact HO
    iexact Ha0
  iintro ⟨HO, Hz0, Hsnd⟩
  unfold sendPay
  ihave Hacc := (acc_split c t (accAt m t.val c)).2 $$ [Hsnd Hrem]
  · isplitl [Hsnd] <;> iassumption
  iapply (wp_wait_step m K c t 1 (rcvS t) (rcvS_eq t) (recvPay m c t) rfl (src := sndM c t) (dst := slotM t) (credit_slot t) (owedRs c k (by omega)) _
      (mayWait_rs k (by omega) (by rw [lv_rcv, ht]; simp only [stp]; omega))) $$ [Hc1 HO Ha1]
  · isplitr; · iexact HI1
    isplitr; · iexact Hlev
    isplitl [Hc1]; · iexact Hc1
    isplitl [HO]; · iexact HO
    iexact Ha1
  iintro ⟨HO, Hz1, Hrcv⟩
  unfold recvPay
  icases Hrcv with ⟨%fd, Hslot⟩
  unfold accPts slotPts
  iapply (wp_load 𝒱₀ (c : Thread nD τ) none Set.univ (m := accM) (Finset.subset_univ _)) $$ Hacc; iintro Hacc
  iapply (wp_load_rect 𝒱₀ (c : Thread nD τ) none Set.univ (m := rsM) (r := slotR t) (Finset.subset_of_eq (slot_set t).symm)) $$ Hslot; iintro Hslot
  rw [addVal_landed]
  iapply (wp_load 𝒱₀ (c : Thread nD τ) none Set.univ (m := accM) (Finset.subset_univ _)) $$ Hacc; iintro Hacc
  iapply (wp_store 𝒱₀ (c : Thread nD τ) none Set.univ (m := accM) (r := addR c t) (Mk := Finset.univ) (Finset.subset_univ _)) $$ Hacc; iintro Hacc
  iapply Hk
  rw [accStep_eq, show RS.accStep c t (accAt m t.val c) (arrival m c t) = accAt m (t.val + 1) c from (RS.accOf_succ (acc0 m) t c).symm]
  isplitl [Hz0 Hz1 Hslot]
  · isplitl [Hz0 Hz1]
    · isplitl [Hz0] <;> iassumption
    iexists _; iexact Hslot
  isplitl [Hacc]; · iexact Hacc
  iexact HO

/-- ONE STEP of the gather. -/
theorem wp_agStep (k : ℕ) (hk : k + 1 ≤ 31) (ht : t = stp k hk) (W : Waits sig Unit) (KP : Body F) (Q : PUnit → sProp 𝕄) :
    iprop(records m K ∗ levAts L lv ∗ todoG c t ∗ outPts c (rot c t.val) (full m) ∗ owes (c : Thread nD τ) (owedAg c (k + 1) hk) W
        ∗ (∀ W', (doneG m c t ∗ outPts c (rot c (t.val + 1)) (full m) ∗ owes (c : Thread nD τ) (owedAg c k (by omega)) W')
            -∗ wp frame (wpE (defs₀ (F := F)) 𝒱₀ (c : Thread nD τ) none) Set.univ KP Q))
      ⊢ wp frame (wpE (defs₀ (F := F)) 𝒱₀ (c : Thread nD τ) none) Set.univ (agStep c t KP) Q := by
  unfold todoG doneG agStep
  iintro ⟨#HR, #Hlev, ⟨⟨Ha2, Ha3⟩, Ht2, Ht3, Hc3, ⟨%fn, Hfn⟩⟩, Hout, HO, Hk⟩
  ihave #HI2 := (inv_at m K (c, .inr (2, t))) $$ HR
  ihave #HI3 := (inv_at m K (c, .inr (3, t))) $$ HR
  ihave #HIN := (inv_at m K (nxt c, .inr (3, t))) $$ HR
  ihave #Hr2 := (reached_at m K (c, .inr (2, t))) $$ HR
  ihave #HrN := (reached_at m K (nxt c, .inr (3, t))) $$ HR
  iapply (wp_send_gather m K c t _ (dev34_eq c) _ _ (gsndS_eq t) (grcvS_eq t) fn (owedAg c k (by omega)) W) $$ [Hout Hfn HO Ht2 Ht3]
  · isplitr; · iexact HI2
    isplitr; · iexact HIN
    isplitl [Hout]; · iexact Hout
    isplitl [Hfn]; · iexact Hfn
    isplitl [HO]; · subst ht; iexact HO
    isplitl [Ht2]; · iexact Ht2
    isplitr; · iexact Hr2
    isplitl [Ht3]; · iexact Ht3
    iexact HrN
  iintro ⟨Hc2, HO⟩
  iapply (wp_wait_step m K c t 2 (gsndS t) (gsndS_eq t) (outPts c (rot c t.val) (full m)) rfl (src := agM c t) (dst := agM c t) (credit_ag c t) (owedAg c k (by omega)) W
      (mayWait_ag k (by omega) (by rw [lv_gsnd]; omega))) $$ [Hc2 HO Ha2]
  · isplitr; · iexact HI2
    isplitr; · iexact Hlev
    isplitl [Hc2]; · iexact Hc2
    isplitl [HO]; · iexact HO
    iexact Ha2
  iintro ⟨HO, Hz2, Hout⟩
  iapply (wp_wait_step m K c t 3 (grcvS t) (grcvS_eq t) (outPts c (rot c (t.val + 1)) (full m)) rfl (src := agM c t) (dst := agM c t) (credit_ag c t) (owedAg c k (by omega)) _
      (mayWait_ag k (by omega) (by rw [lv_grcv, ht]; simp only [stp]; omega))) $$ [Hc3 HO Ha3]
  · isplitr; · iexact HI3
    isplitr; · iexact Hlev
    isplitl [Hc3]; · iexact Hc3
    isplitl [HO]; · iexact HO
    iexact Ha3
  iintro ⟨HO, Hz3, Hnew⟩
  iapply Hk
  isplitl [Hz2 Hz3 Hout]
  · isplitl [Hz2 Hz3]
    · isplitl [Hz2] <;> iassumption
    iexact Hout
  isplitl [Hnew]; · iexact Hnew
  iexact HO

end Step

/-- ALL STEPS from `k` to go. -/
theorem wp_rsFrom (K : Dev nD × CK → ℕ) (c : Dev nD) (KP : Body F) (Q : PUnit → sProp 𝕄) : ∀ (k : ℕ) (hk : k ≤ 31) (W : Waits sig Unit),
    iprop(records m K ∗ levAts L lv ∗ rest (todo c) k hk ∗ accPts c (accAt m (31 - k) c) ∗ owes (c : Thread nD τ) (owedRs c k hk) W
        ∗ (∀ W', (rest (done c) k hk ∗ accPts c (accAt m 31 c) ∗ owes (c : Thread nD τ) (owedAg c 31 (Nat.le_refl 31)) W')
            -∗ wp frame (wpE (defs₀ (F := F)) 𝒱₀ (c : Thread nD τ) none) Set.univ KP Q))
      ⊢ wp frame (wpE (defs₀ (F := F)) 𝒱₀ (c : Thread nD τ) none) Set.univ (rsFrom c KP k hk) Q
  | 0, hk, W => by
      unfold rest rsFrom owedRs owedOn
      iintro ⟨-, -, -, Hacc, HO, Hk⟩
      iapply Hk
      isplitr; · iempintro
      isplitl [Hacc]; · iexact Hacc
      iexact HO
  | k + 1, hk, W => by
      unfold rest rsFrom
      iintro ⟨#HR, #Hlev, ⟨Ht, Hrest⟩, Hacc, HO, Hk⟩
      iapply (wp_rsStep m K c (stp k hk) k hk rfl W (rsFrom c KP k (Nat.le_of_succ_le hk)) Q)
      isplitr; · iexact HR
      isplitr; · iexact Hlev
      isplitl [Ht]; · iexact Ht
      isplitl [Hacc]; · rw [show 31 - (k + 1) = (stp k hk).val from Nat.succ_sub_succ 30 k]; iexact Hacc
      isplitl [HO]; · iexact HO
      iintro %W' ⟨Hd, Hacc, HO⟩
      iapply (wp_rsFrom K c KP Q k (Nat.le_of_succ_le hk) W')
      isplitr; · iexact HR
      isplitr; · iexact Hlev
      isplitl [Hrest]; · iexact Hrest
      isplitl [Hacc]; · rw [show 31 - k = (stp k hk).val + 1 from Nat.succ_sub (Nat.le_of_succ_le_succ hk)]; iexact Hacc
      isplitl [HO]; · iexact HO
      iintro %W'' ⟨Hds, Hacc, HO⟩
      iapply Hk
      isplitl [Hd Hds]; · isplitl [Hd] <;> iassumption
      isplitl [Hacc]; · iexact Hacc
      iexact HO

/-- ALL STEPS of the gather from `k` to go. -/
theorem wp_agFrom (K : Dev nD × CK → ℕ) (c : Dev nD) (Q : PUnit → sProp 𝕄) : ∀ (k : ℕ) (hk : k ≤ 31) (W : Waits sig Unit),
    iprop(records m K ∗ levAts L lv ∗ rest (todoG c) k hk ∗ outPts c (rot c (31 - k)) (full m) ∗ owes (c : Thread nD τ) (owedAg c k hk) W
        ∗ (∀ W', (rest (doneG m c) k hk ∗ outPts c (rot c 31) (full m) ∗ owes (c : Thread nD τ) 0 W') -∗ Q ⟨⟩))
      ⊢ wp frame (wpE (defs₀ (F := F)) 𝒱₀ (c : Thread nD τ) none) Set.univ (agFrom c k hk) Q
  | 0, hk, W => by
      unfold rest agFrom owedAg owedOn
      rw [wp_ret]
      iintro ⟨-, -, -, Hout, HO, Hk⟩
      imodintro
      iapply Hk
      isplitr; · iempintro
      isplitl [Hout]; · iexact Hout
      iexact HO
  | k + 1, hk, W => by
      unfold rest agFrom
      iintro ⟨#HR, #Hlev, ⟨Ht, Hrest⟩, Hout, HO, Hk⟩
      iapply (wp_agStep m K c (stp k hk) k hk rfl W (agFrom c k (Nat.le_of_succ_le hk)) Q)
      isplitr; · iexact HR
      isplitr; · iexact Hlev
      isplitl [Ht]; · iexact Ht
      isplitl [Hout]; · rw [show 31 - (k + 1) = (stp k hk).val from Nat.succ_sub_succ 30 k]; iexact Hout
      isplitl [HO]; · iexact HO
      iintro %W' ⟨Hd, Hout, HO⟩
      iapply (wp_agFrom K c Q k (Nat.le_of_succ_le hk) W')
      isplitr; · iexact HR
      isplitr; · iexact Hlev
      isplitl [Hrest]; · iexact Hrest
      isplitl [Hout]; · rw [show 31 - k = (stp k hk).val + 1 from Nat.succ_sub (Nat.le_of_succ_le_succ hk)]; iexact Hout
      isplitl [HO]; · iexact HO
      iintro %W'' ⟨Hds, Hout, HO⟩
      iapply Hk
      isplitl [Hd Hds]; · isplitl [Hd] <;> iassumption
      isplitl [Hout]; · iexact Hout
      iexact HO

end Cert.AG
-- ==== Proof.GatherRun.lean ====
/-
# The body on one device, with the gather

As `Run`: the handshake (which here also hands over the chunks of the result), the attention, the reduce-scatter
(`wp_rsFrom`), the own chunk's store, the gather (`wp_agFrom`), after which the chunks make up the whole result.
-/
module

public import proofs.«01_k».proof.Proof.GatherStep
public import proofs.«01_k».proof.Proof.Run

@[expose] public section

noncomputable section

namespace Cert.AG

open Cert.GatherIdeal Cert.GatherIdeal.Gen
open Cert.RS (qVal headVal projVal addVal outVal inb_slot inb_sem inb_head headOf accIn stepVal accOf arrivalOf stp rest rest_all hz2 hz3 heads_eq)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The landing buffer, whole and slot by slot -/

theorem slot_rect (t : Fin 31) : (slotM t).view.set = (slotR t).set := (slot_set t).trans (View.set_slice_whole cc0_scratch1 (slotR t))

theorem slots_disjoint (t t' : Fin 31) (h : t ≠ t') : Disjoint (slotR t).set (slotR t').set := RS.slots_disjoint t t' h
theorem slots_cover : Finset.univ.biUnion (fun t : Fin 31 => (slotR t).set) = Finset.univ := RS.slots_cover

/-- A slot's elements, as the slot's rectangle of the buffer. -/
theorem slotPts_eq (c : Dev nD) (t : Fin 31) (f : Buf (Elt F) ((c : Thread nD τ).loc cc0_scratch1)) :
    slotPts c t f = (((c : Thread nD τ).loc cc0_scratch1) ↦[(slotR t).set]{fullShare} f : sProp 𝕄) :=
  congrArg (fun S => (((c : Thread nD τ).loc cc0_scratch1) ↦[S]{fullShare} f : sProp 𝕄)) (slot_rect t)

theorem slots_split (c : Dev nD) (f : Buf (Elt F) ((c : Thread nD τ).loc cc0_scratch1)) :
    (((c : Thread nD τ).loc cc0_scratch1) ↦{fullShare} f : sProp 𝕄) ⊢ slotsAny c := by
  unfold slotsAny
  rw [Ring.pointsTo_blocks (ℓ := (c : Thread nD τ).loc cc0_scratch1) (fun t : Fin 31 => (slotR t).set) slots_disjoint slots_cover f]
  exact bigSep_mono fun t _ => show ((((c : Thread nD τ).loc cc0_scratch1) ↦[(slotR t).set]{fullShare} f : sProp 𝕄)) ⊢ iprop(∃ f, slotPts c t f) from by
    iintro H; iexists f; rw [slotPts_eq]; iexact H

theorem slots_join (c : Dev nD) (f₀ : Buf (Elt F) ((c : Thread nD τ).loc cc0_scratch1)) :
    slotsAny c ⊢ (iprop(∃ f, ((c : Thread nD τ).loc cc0_scratch1) ↦{fullShare} f) : sProp 𝕄) := by
  unfold slotsAny
  refine (bigSep_mono fun t _ => ?_).trans
    (Ring.pointsTo_blocks_join_exists (ℓ := (c : Thread nD τ).loc cc0_scratch1) (fun t : Fin 31 => (slotR t).set) slots_disjoint slots_cover f₀)
  show (iprop(∃ f, slotPts c t f) : sProp 𝕄) ⊢ iprop(∃ f, ((c : Thread nD τ).loc cc0_scratch1) ↦[(slotR t).set]{fullShare} f)
  iintro ⟨%f, H⟩; iexists f; rw [← slotPts_eq]; iexact H

/-! ## The result, whole and chunk by chunk -/

theorem chunks_disjoint (q q' : Fin 32) (h : q ≠ q') : Disjoint (chR q).set (chR q').set :=
  Ring.lead_disjoint (s := S1x512x1024) (1 : Fin 3) 16 (fun q : Fin 32 => ![0, 16 * q.val, 0]) S1x16x1024.size inb_chunk
    (fun b => rfl) rfl q q' h

theorem chunks_cover : Finset.univ.biUnion (fun q : Fin 32 => (chR q).set) = Finset.univ :=
  Ring.lead_cover (s := S1x512x1024) (1 : Fin 3) 16 (fun q : Fin 32 => ![0, 16 * q.val, 0]) S1x16x1024.size inb_chunk
    (fun b => rfl) (fun b a ha => by fin_cases a <;> first | rfl | exact absurd rfl ha) rfl
    (fun a ha => by fin_cases a <;> first | rfl | exact absurd rfl ha) rfl

/-- In the device's own numbering. -/
theorem outs_eq (c : Dev nD) (f : Buf (Elt F) ((c : Thread nD τ).loc cc0_stg5_0)) :
    (((c : Thread nD τ).loc cc0_stg5_0) ↦{fullShare} f : sProp 𝕄) = bigSep Finset.univ fun s : Fin 32 => outPts c (rot c s.val) f := by
  rw [Ring.pointsTo_blocks (ℓ := (c : Thread nD τ).loc cc0_stg5_0) (fun q : Fin 32 => (chR q).set) chunks_disjoint chunks_cover f]
  exact bigSep_univ_equiv (rotE c) (fun q : Fin 32 => (outPts c q f : sProp 𝕄))

/-- The own chunk apart. -/
theorem outs_first (c : Dev nD) (f : Buf (Elt F) ((c : Thread nD τ).loc cc0_stg5_0)) :
    (((c : Thread nD τ).loc cc0_stg5_0) ↦{fullShare} f : sProp 𝕄)
      = iprop(outPts c (rot c 0) f ∗ bigSep Finset.univ fun t : Fin 31 => outPts c (rot c (t.val + 1)) f) := by
  rw [outs_eq, bigSep_univ_equiv (finSumFinEquiv (m := 1) (n := 31)) (fun s : Fin 32 => (outPts c (rot c s.val) f : sProp 𝕄)),
    show ∀ Φ : Fin 1 ⊕ Fin 31 → sProp 𝕄, bigSep Finset.univ Φ = iprop(bigSep Finset.univ (fun a => Φ (.inl a)) ∗ bigSep Finset.univ (fun b => Φ (.inr b))) from
      fun Φ => BI.bigSep_univ_sum Φ, bigSep_univ_eq_bigSepL [(0 : Fin 1)] (by decide) (by decide)]
  exact congrArg (fun X : sProp 𝕄 => iprop(outPts c (rot c 0) f ∗ X)) (bigSep_congr fun t _ => congrArg (fun s => outPts c (rot c s) f) (Nat.add_comm 1 t.val))

/-- The last chunk apart. -/
theorem outs_last (c : Dev nD) (f : Buf (Elt F) ((c : Thread nD τ).loc cc0_stg5_0)) :
    (((c : Thread nD τ).loc cc0_stg5_0) ↦{fullShare} f : sProp 𝕄)
      = iprop((bigSep Finset.univ fun t : Fin 31 => outPts c (rot c t.val) f) ∗ outPts c (rot c 31) f) := by
  rw [outs_eq, bigSep_univ_equiv (finSumFinEquiv (m := 31) (n := 1)) (fun s : Fin 32 => (outPts c (rot c s.val) f : sProp 𝕄)),
    show ∀ Φ : Fin 31 ⊕ Fin 1 → sProp 𝕄, bigSep Finset.univ Φ = iprop(bigSep Finset.univ (fun a => Φ (.inl a)) ∗ bigSep Finset.univ (fun b => Φ (.inr b))) from
      fun Φ => BI.bigSep_univ_sum Φ, bigSep_univ_eq_bigSepL [(0 : Fin 1)] (by decide) (by decide)]
  rfl

/-- The whole result, before the handshake. -/
theorem outs_split (c : Dev nD) (f : Buf (Elt F) ((c : Thread nD τ).loc cc0_stg5_0)) :
    (((c : Thread nD τ).loc cc0_stg5_0) ↦{fullShare} f : sProp 𝕄) ⊢ iprop(outPts c (rot c 0) f ∗ outsAny c) := by
  rw [outs_first]
  unfold outsAny
  exact sep_mono_right (bigSep_mono fun t _ => show (outPts c (rot c (t.val + 1)) f : sProp 𝕄) ⊢ iprop(∃ f, outPts c (rot c (t.val + 1)) f) from by
    iintro H; iexists f; iexact H)

/-- The right neighbour's chunks are the chunks sent. -/
theorem outsAny_nxt (c : Dev nD) : (outsAny (nxt c) : sProp 𝕄) = bigSep Finset.univ fun t : Fin 31 => iprop(∃ f, outPts (nxt c) (rot c t.val) f) :=
  bigSep_congr fun t _ => by rw [rot_nxt]

/-! ## Holdings -/

/-- A device's positions, and the tokens of the duties it pays. -/
def linear (c : Dev nD) : sProp 𝕄 :=
  iprop(atPos ER (barCell c) 0 ∅ 0 ∗ (bigSep Finset.univ fun t : Fin 31 => bigSep Finset.univ fun j : Fin 4 => atPos ER (dCell c j t) 0 ∅ 0)
    ∗ dutyTok ER (barCell (prv c)) 0 true ∗ dutyTok ER (barCell (nxt c)) 0 false
    ∗ ((bigSep Finset.univ fun t : Fin 31 => dutyTok ER (dCell c 0 t) 0 false) ∗ bigSep Finset.univ fun t : Fin 31 => dutyTok ER (dCell (nxt c) 1 t) 0 false)
    ∗ ((bigSep Finset.univ fun t : Fin 31 => dutyTok ER (dCell c 2 t) 0 false) ∗ bigSep Finset.univ fun t : Fin 31 => dutyTok ER (dCell (nxt c) 3 t) 0 false))

def ghost (K : Dev nD × CK → ℕ) (c : Dev nD) : sProp 𝕄 := iprop(records m K ∗ linear c)

def start (c : Dev nD) : sProp 𝕄 :=
  iprop((∃ K, ghost m K c) ∗ cred (tallyAt (barCell c) () 2) ∗ (bigSep Finset.univ fun t : Fin 31 => cred (tallyAt (dCell c 1 t) () N))
    ∗ (bigSep Finset.univ fun t : Fin 31 => cred (tallyAt (dCell c 3 t) () N)) ∗ levAts L lv)

def scratch (c : Dev nD) : sProp 𝕄 := iprop((∃ f, accPts c f) ∗ ∃ f : Buf (Elt F) ((c : Thread nD τ).loc cc0_scratch1), ((c : Thread nD τ).loc cc0_scratch1) ↦{fullShare} f)

def Φ₀ (c : Dev nD) : sProp 𝕄 := iprop(start m c ∗ scratch c)

/-- After the body: the scratch buffers at some contents, every cell of the device at zero. -/
def Φ₁ (c : Dev nD) : sProp 𝕄 :=
  iprop(scratch c ∗ (bigSep Finset.univ fun t : Fin 31 => bigSep Finset.univ fun j : Fin 4 => semVal (dCell c j t) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wqstg m c
    | ⟨2, _⟩ => wostg m c
    | ⟨3, _⟩ => kstg m c
    | ⟨4, _⟩ => vstg m c
    | ⟨5, _⟩ => full m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The attention -/

theorem read_x (f : (cc0_stg0_0 : Ref sig .tc).ty.Contents (Elt F)) :
    xM.view.readAt (Elt F) (Rect.unit (s := S1x512x1024) ![0, 0, 0] S1x512x1024.size inb_S1x512x1024_S1x512x1024_0_0_0).toLoadRect f = f :=
  Memref.readAt_unit_zero (Elt F) cc0_stg0_0 hz3 _ f
theorem read_wq (f : (cc0_stg1_0 : Ref sig .tc).ty.Contents (Elt F)) :
    wqM.view.readAt (Elt F) (Rect.unit (s := S1024x1024) ![0, 0] S1024x1024.size inb_S1024x1024_S1024x1024_0_0).toLoadRect f = f :=
  Memref.readAt_unit_zero (Elt F) cc0_stg1_0 hz2 _ f
theorem read_wo (f : (cc0_stg2_0 : Ref sig .tc).ty.Contents (Elt F)) :
    woM.view.readAt (Elt F) (Rect.unit (s := S1024x1024) ![0, 0] S1024x1024.size inb_S1024x1024_S1024x1024_0_0).toLoadRect f = f :=
  Memref.readAt_unit_zero (Elt F) cc0_stg2_0 hz2 _ f
theorem write_acc (f w : (cc0_scratch0 : Ref sig .tc).ty.Contents (Elt F)) :
    (accM.access (Rect.unit (s := S512x1024) ![0, 0] S512x1024.size inb_S512x1024_S512x1024_0_0) : View sig .tc _ _ _).write (Elt F) f w Finset.univ = w :=
  Memref.write_access_unit_zero_univ (Elt F) cc0_scratch0 hz2 _ f w
abbrev at_ (c : Dev nD) (b : Ref sig .tc) (X : b.ty.Contents (Elt F)) : sProp 𝕄 := ((c : Thread nD τ).loc b) ↦{fullShare} X

section Attention
variable (c : Dev nD)

/-- Reading one head of the keys and of the values. -/
theorem wp_readHead (h : Fin 8) (fk : (cc0_stg3_0 : Ref sig .tc).ty.Contents (Elt F)) (fv : (cc0_stg4_0 : Ref sig .tc).ty.Contents (Elt F))
    (KP : Vec F S2048x1x128 .f32 → Vec F S2048x1x128 .f32 → Body F) (Q : PUnit → sProp 𝕄) :
    iprop(at_ c cc0_stg3_0 fk ∗ at_ c cc0_stg4_0 fv
        ∗ ((at_ c cc0_stg3_0 fk ∗ at_ c cc0_stg4_0 fv) -∗ wp frame (wpE (defs₀ (F := F)) 𝒱₀ (c : Thread nD τ) none) Set.univ (KP (headOf fk h) (headOf fv h)) Q))
      ⊢ wp frame (wpE (defs₀ (F := F)) 𝒱₀ (c : Thread nD τ) none) Set.univ (readHead h KP) Q := by
  unfold readHead at_
  iintro ⟨Hk, Hv, Hc⟩
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply Hc
  isplitl [Hk] <;> iassumption

set_option maxHeartbeats 400000 in
theorem wp_attention (fa : (cc0_scratch0 : Ref sig .tc).ty.Contents (Elt F)) (KP : Body F) (Q : PUnit → sProp 𝕄) :
    iprop(at_ c cc0_stg0_0 (xstg m c) ∗ at_ c cc0_stg1_0 (wqstg m c) ∗ at_ c cc0_stg2_0 (wostg m c) ∗ at_ c cc0_stg3_0 (kstg m c) ∗ at_ c cc0_stg4_0 (vstg m c)
        ∗ accPts c fa
        ∗ ((at_ c cc0_stg0_0 (xstg m c) ∗ at_ c cc0_stg1_0 (wqstg m c) ∗ at_ c cc0_stg2_0 (wostg m c) ∗ at_ c cc0_stg3_0 (kstg m c) ∗ at_ c cc0_stg4_0 (vstg m c)
            ∗ accPts c (acc0 m c)) -∗ wp frame (wpE (defs₀ (F := F)) 𝒱₀ (c : Thread nD τ) none) Set.univ KP Q))
      ⊢ wp frame (wpE (defs₀ (F := F)) 𝒱₀ (c : Thread nD τ) none) Set.univ (attention KP) Q := by
  unfold attention
  iintro ⟨Hx, Hq, Ho, Hk, Hv, Ha, Hc⟩
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hq; iintro Hq
  rw [read_x, read_wq]
  iapply (wp_readHead c 0); isplitl [Hk]; · iexact Hk
  isplitl [Hv]; · iexact Hv
  iintro ⟨Hk, Hv⟩
  iapply (wp_readHead c 1); isplitl [Hk]; · iexact Hk
  isplitl [Hv]; · iexact Hv
  iintro ⟨Hk, Hv⟩
  iapply (wp_readHead c 2); isplitl [Hk]; · iexact Hk
  isplitl [Hv]; · iexact Hv
  iintro ⟨Hk, Hv⟩
  iapply (wp_readHead c 3); isplitl [Hk]; · iexact Hk
  isplitl [Hv]; · iexact Hv
  iintro ⟨Hk, Hv⟩
  iapply (wp_readHead c 4); isplitl [Hk]; · iexact Hk
  isplitl [Hv]; · iexact Hv
  iintro ⟨Hk, Hv⟩
  iapply (wp_readHead c 5); isplitl [Hk]; · iexact Hk
  isplitl [Hv]; · iexact Hv
  iintro ⟨Hk, Hv⟩
  iapply (wp_readHead c 6); isplitl [Hk]; · iexact Hk
  isplitl [Hv]; · iexact Hv
  iintro ⟨Hk, Hv⟩
  iapply (wp_readHead c 7); isplitl [Hk]; · iexact Hk
  isplitl [Hv]; · iexact Hv
  iintro ⟨Hk, Hv⟩
  iapply (wp_load 𝒱₀ (c : Thread nD τ) none Set.univ (m := woM) (Finset.subset_univ _)) $$ Ho; iintro Ho
  rw [read_wo, heads_eq (xstg m c) (wqstg m c) (wostg m c) (headOf (kstg m c)) (headOf (vstg m c))]
  unfold accPts
  iapply (wp_load 𝒱₀ (c : Thread nD τ) none Set.univ (m := accM) (Finset.subset_univ _)) $$ Ha; iintro Ha
  iapply (wp_store 𝒱₀ (c : Thread nD τ) none Set.univ (m := accM) (r := Rect.unit (s := S512x1024) ![0, 0] S512x1024.size inb_S512x1024_S512x1024_0_0) (Mk := Finset.univ) (Finset.subset_univ _)) $$ Ha; iintro Ha
  rw [write_acc]
  iapply Hc
  isplitl [Hx]; · iexact Hx
  isplitl [Hq]; · iexact Hq
  isplitl [Ho]; · iexact Ho
  isplitl [Hk]; · iexact Hk
  isplitl [Hv]; · iexact Hv
  unfold acc0 accIn
  iexact Ha

end Attention

/-! ## The body -/

section Body

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xstg m c) ∗ stg c cc0_stg1_0 (wqstg m c) ∗ stg c cc0_stg2_0 (wostg m c)
    ∗ stg c cc0_stg3_0 (kstg m c) ∗ stg c cc0_stg4_0 (vstg m c) ∗ stg c cc0_stg5_0 (full m))

/-- What a device holds between the handshake and the first step, step by step. -/
theorem todo_intro (c : Dev nD) :
    iprop((bigSep Finset.univ fun t : Fin 31 => bigSep Finset.univ fun j : Fin 4 => atPos ER (dCell c j t) 0 ∅ 0)
        ∗ ((bigSep Finset.univ fun t : Fin 31 => dutyTok ER (dCell c 0 t) 0 false) ∗ bigSep Finset.univ fun t : Fin 31 => dutyTok ER (dCell (nxt c) 1 t) 0 false)
        ∗ ((bigSep Finset.univ fun t : Fin 31 => dutyTok ER (dCell c 2 t) 0 false) ∗ bigSep Finset.univ fun t : Fin 31 => dutyTok ER (dCell (nxt c) 3 t) 0 false)
        ∗ (bigSep Finset.univ fun t : Fin 31 => cred (tallyAt (dCell c 1 t) () N)) ∗ (bigSep Finset.univ fun t : Fin 31 => cred (tallyAt (dCell c 3 t) () N))
        ∗ slotsAny (nxt c) ∗ outsAny (nxt c))
      ⊢ (iprop(rest (todo c) 31 (Nat.le_refl 31) ∗ rest (todoG c) 31 (Nat.le_refl 31)) : sProp 𝕄) := by
  rw [← rest_all, ← rest_all, outsAny_nxt]
  unfold todo todoG slotsAny
  simp only [RS.bigSep_fin4, bigSep_sep']
  iintro ⟨⟨P0, P1, P2, P3⟩, ⟨T0, T1⟩, ⟨T2, T3⟩, C1, C3, S, O⟩
  isplitl [P0 P1 T0 T1 C1 S]
  · isplitl [P0 P1]
    · isplitl [P0] <;> iassumption
    isplitl [T0]; · iexact T0
    isplitl [T1]; · iexact T1
    isplitl [C1] <;> iassumption
  isplitl [P2 P3]
  · isplitl [P2] <;> iassumption
  isplitl [T2]; · iexact T2
  isplitl [T3]; · iexact T3
  isplitl [C3] <;> iassumption

theorem done_elim (c : Dev nD) :
    (iprop(rest (done c) 31 (Nat.le_refl 31) ∗ rest (doneG m c) 31 (Nat.le_refl 31) ∗ outPts c (rot c 31) (full m)) : sProp 𝕄)
      ⊢ iprop((bigSep Finset.univ fun t : Fin 31 => bigSep Finset.univ fun j : Fin 4 => semVal (dCell c j t) 0) ∗ slotsAny c ∗ at_ c cc0_stg5_0 (full m)) := by
  rw [← rest_all, ← rest_all]
  unfold done doneG slotsAny at_
  rw [outs_last c (full m)]
  simp only [RS.bigSep_fin4, bigSep_sep']
  iintro ⟨⟨⟨Z0, Z1⟩, S⟩, ⟨⟨Z2, Z3⟩, O⟩, O'⟩
  isplitl [Z0 Z1 Z2 Z3]
  · isplitl [Z0]; · iexact Z0
    isplitl [Z1]; · iexact Z1
    isplitl [Z2] <;> iassumption
  isplitl [S]; · iexact S
  isplitl [O] <;> iassumption

/-- The own chunk's store. -/
theorem wp_ownStore (c : Dev nD) (f : (cc0_stg5_0 : Ref sig .tc).ty.Contents (Elt F)) (KP : Body F) (Q : PUnit → sProp 𝕄) :
    iprop(accPts c (accAt m 31 c) ∗ outPts c (rot c 0) f
        ∗ ((accPts c (accAt m 31 c) ∗ outPts c (rot c 0) (full m)) -∗ wp frame (wpE (defs₀ (F := F)) 𝒱₀ (c : Thread nD τ) none) Set.univ KP Q))
      ⊢ wp frame (wpE (defs₀ (F := F)) 𝒱₀ (c : Thread nD τ) none) Set.univ (ownStore (F := F) c KP) Q := by
  have h : (outPts c (rot c 0) (full m) : sProp 𝕄) = outPts c (rot c 0) (ownWritten m c f) :=
    pointsTo_congr fun i hi => (ownWritten_eq m c f i hi).symm
  rw [h]
  unfold ownStore accPts outPts
  iintro ⟨Ha, Ho, Hc⟩
  iapply (wp_load 𝒱₀ (c : Thread nD τ) none Set.univ (m := accM) (Finset.subset_univ _)) $$ Ha; iintro Ha
  iapply (wp_load_rect 𝒱₀ (c : Thread nD τ) none Set.univ (m := oM) (r := ownO c) (Finset.subset_of_eq (own_set c))) $$ Ho; iintro Ho
  iapply (wp_store 𝒱₀ (c : Thread nD τ) none Set.univ (m := oM) (r := ownO c) (Mk := Finset.univ) (Finset.subset_of_eq (own_set c))) $$ Ho; iintro Ho
  iapply Hc
  isplitl [Ha]; · iexact Ha
  unfold ownWritten
  iexact Ho

set_option maxHeartbeats 800000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ (bodyS (F := F)) Kt := by
  unfold bodyPre bodyS Φ₀ start ghost linear scratch
  simp only [wp_deviceId]
  iintro ⟨⟨⟨⟨⟨%K, #HR, HaB, HaD, HtP, HtN, Ht, Htg⟩, HcB, Hc1, Hc3, #Hlev⟩, ⟨%fa, Ha⟩, ⟨%fr, Hrs⟩⟩, Ho,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have h0 : g0 = xstg m c := by rw [hg0]; unfold Dat.before; rw [if_pos (fetch0_0 t0_0)]; rfl
  have h1 : g1 = wqstg m c := by rw [hg1]; unfold Dat.before; rw [if_pos (fetch0_1 t0_0)]; rfl
  have h2 : g2 = wostg m c := by rw [hg2]; unfold Dat.before; rw [if_pos (fetch0_2 t0_0)]; rfl
  have h3 : g3 = kstg m c := by rw [hg3]; unfold Dat.before; rw [if_pos (fetch0_3 t0_0)]; rfl
  have h4 : g4 = vstg m c := by rw [hg4]; unfold Dat.before; rw [if_pos (fetch0_4 t0_0)]; rfl
  subst h0 h1 h2 h3 h4
  unfold Dat.owesAt Pipeline.owesWithin
  icases Ho with ⟨%W, %hW, HO⟩
  rw [show (dats m ρ 0 c).owed t0_0.castSucc = O₀ c from rfl]
  simp only [dev1_eq c, dev2_eq c]
  ihave #HIB := (inv_at m K (c, .inl ())) $$ HR
  ihave #HIP := (inv_at m K (prv c, .inl ())) $$ HR
  ihave #HIN := (inv_at m K (nxt c, .inl ())) $$ HR
  ihave #HrP := (reached_at m K (prv c, .inl ())) $$ HR
  ihave #HrN := (reached_at m K (nxt c, .inl ())) $$ HR
  -- to the left neighbour, handing over the device's own slots and the chunks of its result
  ihave Hsl := (slots_split c fr) $$ Hrs
  ihave Hou := (outs_split c g5) $$ H5
  icases Hou with ⟨Hown, Hou⟩
  unfold O₀
  iapply (Rounds.wp_signal 𝒱₀ ER (rd m) (c : Thread nD τ) none (dst := (prv c : Thread nD τ)) (κ := K (prv c, .inl ()))
      (d := true) (by rw [duties_bar]; exact Finset.mem_univ _) ((amount_bar m (prv c) true).trans (by decide)) () (O₁ c) rfl)
    $$ [HO HtP Hsl Hou]
  · isplitr; · iexact HIP
    isplitl [HO]; · iexact HO
    isplitl [HtP]; · iexact HtP
    isplitl [Hsl Hou]
    · rw [payload_bar_true, nxt_prv]
      isplitl [Hsl] <;> iassumption
    iexact HrP
  iintro HO
  -- to the right neighbour
  unfold O₁
  iapply (Rounds.wp_signal 𝒱₀ ER (rd m) (c : Thread nD τ) none (dst := (nxt c : Thread nD τ)) (κ := K (nxt c, .inl ()))
      (d := false) (by rw [duties_bar]; exact Finset.mem_univ _) ((amount_bar m (nxt c) false).trans (by decide)) () (O₂ c) rfl)
    $$ [HO HtN]
  · isplitr; · iexact HIN
    isplitl [HO]; · iexact HO
    isplitl [HtN]; · iexact HtN
    isplitr; · rw [payload_bar_false]; iempintro
    iexact HrN
  iintro HO
  -- both have entered: the right neighbour's slots and chunks
  iapply (Rounds.wp_wait_rest_token 𝒱₀ ER (rd m) (c : Thread nD τ) none (κ := K (c, .inl ()))
      (wpE_semWait_eq 𝒱₀ (c : Thread nD τ) none Set.univ) (Set.mem_univ _) () (O := O₂ c) (W := W) (R := 0) (m := 0) (T := ∅)
      (by rw [expect_bar])) $$ [HcB HO HaB]
  · isplitr; · iexact HIB
    isplitl [HcB]; · iexact HcB
    isplitl [HO]; · iexact HO
    isplitr; · unfold O₂; iapply (mayWait_rs (c := c) (sm := .reg barS) 31 (Nat.le_refl 31) (by rw [lv_bar]; decide)); iexact Hlev
    iexact HaB
  iintro ⟨HO, HaB, -, Hpay⟩
  ihave Hp := (Entails.of_eq (rest_bar m c)) $$ Hpay
  icases Hp with ⟨-, Hslots, Houts⟩
  imod (Rounds.cell_close ER (rd m) (Set.mem_univ (K (c, .inl ()))) (fun h => h) (R := 0 + 1) (duties_later m (barCell c))) $$ [HaB] with HzB
  · isplitr; · iexact HIB
    iexact HaB
  iapply (wp_attention m c fa)
  isplitl [H0]; · iexact H0
  isplitl [H1]; · iexact H1
  isplitl [H2]; · iexact H2
  isplitl [H3]; · iexact H3
  isplitl [H4]; · iexact H4
  isplitl [Ha]; · iexact Ha
  iintro ⟨H0, H1, H2, H3, H4, Ha⟩
  ihave Htodo := (todo_intro c) $$ [HaD Ht Htg Hc1 Hc3 Hslots Houts]
  · isplitl [HaD]; · iexact HaD
    isplitl [Ht]; · iexact Ht
    isplitl [Htg]; · iexact Htg
    isplitl [Hc1]; · iexact Hc1
    isplitl [Hc3]; · iexact Hc3
    isplitl [Hslots] <;> iassumption
  icases Htodo with ⟨Htodo, HtodoG⟩
  iapply (wp_rsFrom m K c (ownStore c (agFrom c 31 (Nat.le_refl 31))) Kt 31 (Nat.le_refl 31) (insert (SemLoc.reg barS, ()) W))
  isplitr; · iexact HR
  isplitr; · iexact Hlev
  isplitl [Htodo]; · iexact Htodo
  isplitl [Ha]; · iexact Ha
  isplitl [HO]; · iexact HO
  iintro %W' ⟨Hd, Ha, HO⟩
  iapply (wp_ownStore m c g5)
  isplitl [Ha]; · iexact Ha
  isplitl [Hown]; · iexact Hown
  iintro ⟨Ha, Hown⟩
  iapply (wp_agFrom m K c Kt 31 (Nat.le_refl 31) W')
  isplitr; · iexact HR
  isplitr; · iexact Hlev
  isplitl [HtodoG]; · iexact HtodoG
  isplitl [Hown]; · iexact Hown
  isplitl [HO]; · iexact HO
  iintro %W'' ⟨Hdg, Hlast, HO⟩
  ihave Hd' := (done_elim m c) $$ [Hd Hdg Hlast]
  · isplitl [Hd]; · iexact Hd
    isplitl [Hdg] <;> iassumption
  icases Hd' with ⟨HzD, Hsl, H5⟩
  ihave Hrs := (slots_join c fr) $$ Hsl
  iapply Hk
  unfold bodyPost Φ₁ scratch Dat.owesAt Pipeline.owesWithin
  rw [show (dats m ρ 0 c).owed t0_0.succ = 0 from rfl]
  isplitl [Ha Hrs HzD HzB]
  · isplitl [Ha Hrs]
    · isplitl [Ha]; · iexists _; iexact Ha
      iexact Hrs
    isplitl [HzD] <;> iassumption
  isplitl [HO]
  · iexists W''
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

theorem body_run (c : Dev nD) : bodyPre m ρ c ⊢ wp frame (wpE (defs₀ (F := F)) 𝒱₀ c none) Set.univ (bodyS (F := F)) (fun _ => bodyPost m ρ c) := by
  iintro H
  iapply (sound_body m ρ c fun _ => bodyPost m ρ c)
  isplitl [H]; · iexact H
  iintro H; iexact H

set_option maxRecDepth 4000 in
/-- The launch theorem's obligation on the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  rw [show defs₀ (F := F) Proc.tc 0 (t0_0, cfg0.slots t0_0) = bodyS from body_eq,
    show (dats m ρ 0 c).Φ t0_0.castSucc = Φ₀ m c from rfl, show (dats m ρ 0 c).Φ t0_0.succ = Φ₁ c from rfl,
    show (dats m ρ 0 c).after 0 t0_0 = xstg m c from rfl, show (dats m ρ 0 c).after 1 t0_0 = wqstg m c from rfl,
    show (dats m ρ 0 c).after 2 t0_0 = wostg m c from rfl, show (dats m ρ 0 c).after 3 t0_0 = kstg m c from rfl,
    show (dats m ρ 0 c).after 4 t0_0 = vstg m c from rfl, show (dats m ρ 0 c).after 5 t0_0 = full m from by dsimp only [dats]]
  have h := body_run m ρ c
  unfold bodyPre bodyPost stg at h
  convert h using 1

end Body

end Cert.AG
-- ==== Proof.GatherLaunch.lean ====
/-
# The launch, with the gather

As `LaunchRun`, with the gather's cells, tokens and credit.
-/
module

public import proofs.«01_k».proof.Proof.GatherRun
public import Idealize.ShloMosaic.Lib.Pipeline.CollectiveSegs

@[expose] public section

noncomputable section

namespace Cert.AG

open Cert.GatherIdeal Cert.GatherIdeal.Gen
open Cert.RS (stp)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of one device's own cells: its barrier's two, and one per send and per arrival of either phase. -/
abbrev TK : Type := Bool ⊕ (Fin 4 × Fin 31)
abbrev tokOf (ck : Dev nD × TK) : GSem nD τ sig × ℕ × Bool := match ck.2 with
  | .inl b => (barCell ck.1, 0, b)
  | .inr jt => (dCell ck.1 jt.1 jt.2, 0, false)
theorem tokOf_injective : Function.Injective (tokOf : Dev nD × TK → GSem nD τ sig × ℕ × Bool) := by
  rintro ⟨c, k⟩ ⟨c', k'⟩ h
  have h1 : c = c' := by
    have := congrArg (fun x : GSem nD τ sig × ℕ × Bool => x.1.1.1) h
    rcases k with b | ⟨j, t⟩ <;> rcases k' with b' | ⟨j', t'⟩ <;> exact this
  have h2 := congrArg (fun x : GSem nD τ sig × ℕ × Bool => cls x.1.2) h
  have h3 := congrArg (fun x : GSem nD τ sig × ℕ × Bool => x.2.2) h
  subst h1
  rcases k with b | ⟨j, t⟩ <;> rcases k' with b' | ⟨j', t'⟩
  · have : b = b' := h3
    rw [this]
  · rw [show cls _ = some (.inl ()) from cls_bar, show cls _ = some (.inr (_, _)) from cls_d _ t'] at h2; cases h2
  · rw [show cls _ = some (.inr (_, _)) from cls_d _ t, show cls _ = some (.inl ()) from cls_bar] at h2; cases h2
  · rw [show cls _ = some (.inr (_, _)) from cls_d _ t, show cls _ = some (.inr (_, _)) from cls_d _ t'] at h2
    have h4 := Prod.mk.inj (Sum.inr.inj (Option.some.inj h2))
    have h5 : j = j' := h4.1
    rw [h5, h4.2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (bigSep Finset.univ fun t : Fin 31 => dutyTok ER (dCell c 0 t) 0 false) ∗ (bigSep Finset.univ fun t : Fin 31 => dutyTok ER (dCell c 1 t) 0 false)
    ∗ (bigSep Finset.univ fun t : Fin 31 => dutyTok ER (dCell c 2 t) 0 false) ∗ bigSep Finset.univ fun t : Fin 31 => dutyTok ER (dCell c 3 t) 0 false)

def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m K c)

theorem bigSep_CK (Φ : CK → sProp 𝕄) :
    bigSep Finset.univ Φ = iprop(Φ (.inl ()) ∗ bigSep Finset.univ fun t : Fin 31 => bigSep Finset.univ fun j : Fin 4 => Φ (.inr (j, t))) := by
  rw [show bigSep Finset.univ Φ = iprop(bigSep Finset.univ (fun a => Φ (.inl a)) ∗ bigSep Finset.univ (fun b => Φ (.inr b))) from BI.bigSep_univ_sum Φ,
    show (bigSep Finset.univ fun a : Unit => Φ (.inl a)) = Φ (.inl ()) from bigSep_univ_eq_bigSepL [()] (by decide) (by decide) _,
    bigSep_univ_equiv (Equiv.prodComm (Fin 31) (Fin 4)) (fun b => Φ (.inr b)), bigSep_univ_prod]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [show ∀ Φ : TK → sProp 𝕄, bigSep Finset.univ Φ = iprop(bigSep Finset.univ (fun a => Φ (.inl a)) ∗ bigSep Finset.univ (fun b => Φ (.inr b))) from
      fun Φ => BI.bigSep_univ_sum Φ, bigSep_univ_eq_bigSepL [false, true] (by decide) (by decide), bigSep_univ_prod,
      bigSep_univ_eq_bigSepL [(0 : Fin 4), 1, 2, 3] (by decide) (by decide)]
    rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun t : Fin 31 => bigSep Finset.univ fun j : Fin 4 => semVal (dCell c j t) 0 := by
  unfold Pipeline.ownSems0
  rw [bigSep_univ_equiv (Equiv.prodComm (Fin 31) (Fin 4)) (fun k => semVal ((c.tc : Thread nD τ), osem k) 0), bigSep_univ_prod]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd m) (kcell (c, k)) 0)
      ⊢ (|={Set.univ}=> bigSep Finset.univ fun k : CK => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens a device pays with. -/
def payToks (c : Dev nD) : sProp 𝕄 :=
  iprop(dutyTok ER (barCell (prv c)) 0 true ∗ dutyTok ER (barCell (nxt c)) 0 false
    ∗ ((bigSep Finset.univ fun t : Fin 31 => dutyTok ER (dCell c 0 t) 0 false) ∗ bigSep Finset.univ fun t : Fin 31 => dutyTok ER (dCell (nxt c) 1 t) 0 false)
    ∗ ((bigSep Finset.univ fun t : Fin 31 => dutyTok ER (dCell c 2 t) 0 false) ∗ bigSep Finset.univ fun t : Fin 31 => dutyTok ER (dCell (nxt c) 3 t) 0 false))

theorem linear_intro (c : Dev nD) : iprop((bigSep Finset.univ fun k : CK => atPos ER (kcell (c, k)) 0 ∅ 0) ∗ payToks c) ⊢ (linear c : sProp 𝕄) := by
  unfold linear payToks
  rw [bigSep_CK]
  iintro ⟨⟨H1, H2⟩, H3⟩
  isplitl [H1]; · iexact H1
  isplitl [H2] <;> iassumption

/-- The tokens dealt around the ring. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun t : Fin 31 => dutyTok ER (dCell c 1 t) 0 false : sProp 𝕄)),
    bigSep_univ_equiv ring (fun c : Dev nD => (bigSep Finset.univ fun t : Fin 31 => dutyTok ER (dCell c 3 t) 0 false : sProp 𝕄))]
  iintro ⟨⟨H1, H2⟩, H3, H4, H5, H6⟩
  isplitl [H2]; · iexact H2
  isplitl [H1]; · iexact H1
  isplitl [H3 H4]
  · isplitl [H3]; · iexact H3
    iexact H4
  isplitl [H5]; · iexact H5
  iexact H6

theorem regroup :
    (bigSep Finset.univ fun c : Dev nD => iprop((bigSep Finset.univ fun k : CK => iprop(∃ κ : ℕ, cellInv ER (rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m) κ (kcell ck) : sProp 𝕄))) $$ HI
  icases HK with ⟨%K, #HI⟩
  ihave Htk := (toks_around (F := F)) $$ Htok
  iapply (bigSep_with_persistent (R := records m K) (Φ := linear) fun c _ => show iprop(records m K ∗ linear c) ⊢ G' m c from by
    unfold G' ghost; iintro H; iexists K; iexact H)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_eq_iff {a b : Dev nD × CK} : Iff (kcell a = kcell b) (a = b) := kcell_injective.eq_iff

theorem tally_kcell (a b : Dev nD × CK) (n : ℕ) : (tallyAt (kcell a) () n : CellTallies nD τ sig Unit) (kcell b) () = if a = b then n else 0 := by
  rw [tallyAt_apply]
  by_cases h : a = b
  · subst h; rw [if_pos ⟨rfl, rfl⟩, if_pos rfl]
  · rw [if_neg (fun h' => h (kcell_injective h'.1).symm), if_neg h]

/-- What a device owes on top of `O`, at a barrier; at its cells of array `j`; at those of another array. -/
theorem owedOn_bar (d c : Dev nD) (j : Fin 4) (O : CellTallies nD τ sig Unit) : ∀ (k : ℕ) (hk : k ≤ 31), owedOn d j O k hk (barCell c) () = O (barCell c) ()
  | 0, _ => rfl
  | k + 1, hk => by
      rw [owedOn, Pi.add_apply, Finsupp.add_apply, owedOn_bar d c j O k,
        show (tallyAt (dCell (nxt d) j (stp k hk)) () N : CellTallies nD τ sig Unit) (barCell c) () = _ from
          tally_kcell (nxt d, .inr (j, stp k hk)) (c, .inl ()) N, if_neg (fun h => by cases (Prod.mk.inj h).2)]
      rfl

theorem owedOn_at (d c : Dev nD) (j : Fin 4) (O : CellTallies nD τ sig Unit) (t : Fin 31) : ∀ (k : ℕ) (hk : k ≤ 31),
    owedOn d j O k hk (dCell c j t) () = O (dCell c j t) () + if 31 ≤ k + t.val ∧ nxt d = c then N else 0
  | 0, _ => by rw [if_neg (fun h => by omega)]; rfl
  | k + 1, hk => by
      rw [owedOn, Pi.add_apply, Finsupp.add_apply, owedOn_at d c j O t k,
        show (tallyAt (dCell (nxt d) j (stp k hk)) () N : CellTallies nD τ sig Unit) (dCell c j t) () = _ from
          tally_kcell (nxt d, .inr (j, stp k hk)) (c, .inr (j, t)) N, Nat.add_assoc]
      refine congrArg (O (dCell c j t) () + ·) ?_
      simp only [Prod.mk.injEq, Sum.inr.injEq, true_and, Fin.ext_iff, stp]
      by_cases h : (nxt d).val = c.val
      · by_cases h1 : 31 ≤ k + t.val
        · rw [if_pos ⟨h1, h⟩, if_neg (fun hh => by omega), if_pos ⟨by omega, h⟩]; omega
        · by_cases h2 : 30 - k = t.val
          · rw [if_neg (fun hh => h1 hh.1), if_pos ⟨h, h2⟩, if_pos ⟨by omega, h⟩]; omega
          · rw [if_neg (fun hh => h1 hh.1), if_neg (fun hh => h2 hh.2), if_neg (fun hh => by omega)]
      · rw [if_neg (fun hh => h hh.2), if_neg (fun hh => h hh.1), if_neg (fun hh => h hh.2)]

theorem owedOn_other (d c : Dev nD) (j j' : Fin 4) (hj : j ≠ j') (O : CellTallies nD τ sig Unit) (t : Fin 31) : ∀ (k : ℕ) (hk : k ≤ 31),
    owedOn d j O k hk (dCell c j' t) () = O (dCell c j' t) ()
  | 0, _ => rfl
  | k + 1, hk => by
      rw [owedOn, Pi.add_apply, Finsupp.add_apply, owedOn_other d c j j' hj O t k,
        show (tallyAt (dCell (nxt d) j (stp k hk)) () N : CellTallies nD τ sig Unit) (dCell c j' t) () = _ from
          tally_kcell (nxt d, .inr (j, stp k hk)) (c, .inr (j', t)) N,
        if_neg (fun h => hj (Prod.mk.inj (Sum.inr.inj (Prod.mk.inj h).2)).1)]
      rfl

/-- The whole debt at an arrival cell of either phase, but for the barriers'. -/
theorem owedRs_rcv (d c : Dev nD) (j : Fin 4) (hj : j = 1 ∨ j = 3) (t : Fin 31) : O₂ d (dCell c j t) () = if nxt d = c then N else 0 := by
  have h31 : ∀ P : Prop, (31 ≤ 31 + t.val ∧ P) = P := fun P => propext ⟨fun h => h.2, fun h => ⟨by omega, h⟩⟩
  unfold O₂
  rcases hj with rfl | rfl
  · rw [owedOn_at, owedOn_other d c 3 1 (by decide)]
    simp only [h31]
    exact Nat.zero_add _
  · rw [owedOn_other d c 1 3 (by decide), owedOn_at]
    simp only [h31]
    exact Nat.zero_add _

theorem owed_bar (d c : Dev nD) : O₀ d (barCell c) () = (if d = prv c then 1 else 0) + (if d = nxt c then 1 else 0) := by
  unfold O₀ O₁ O₂
  rw [Pi.add_apply, Finsupp.add_apply, Pi.add_apply, Finsupp.add_apply, owedOn_bar, owedOn_bar, Pi.zero_apply, Finsupp.zero_apply, Nat.zero_add,
    show (tallyAt (barCell (nxt d)) () 1 : CellTallies nD τ sig Unit) (barCell c) () = _ from tally_kcell (nxt d, .inl ()) (c, .inl ()) 1,
    show (tallyAt (barCell (prv d)) () 1 : CellTallies nD τ sig Unit) (barCell c) () = _ from tally_kcell (prv d, .inl ()) (c, .inl ()) 1]
  congr 1
  · by_cases h : d = prv c
    · subst h; rw [nxt_prv, if_pos rfl, if_pos rfl]
    · rw [if_neg (fun h' => h (by rw [← (Prod.mk.inj h').1, prv_nxt])), if_neg h]
  · by_cases h : d = nxt c
    · subst h; rw [prv_nxt, if_pos rfl, if_pos rfl]
    · rw [if_neg (fun h' => h (by rw [← (Prod.mk.inj h').1, nxt_prv])), if_neg h]

theorem owed_rcv (d c : Dev nD) (j : Fin 4) (hj : j = 1 ∨ j = 3) (t : Fin 31) : O₀ d (dCell c j t) () = if d = prv c then N else 0 := by
  unfold O₀ O₁
  rw [Pi.add_apply, Finsupp.add_apply, Pi.add_apply, Finsupp.add_apply, owedRs_rcv d c j hj,
    show (tallyAt (barCell (nxt d)) () 1 : CellTallies nD τ sig Unit) (dCell c j t) () = _ from tally_kcell (nxt d, .inl ()) (c, .inr (j, t)) 1,
    show (tallyAt (barCell (prv d)) () 1 : CellTallies nD τ sig Unit) (dCell c j t) () = _ from tally_kcell (prv d, .inl ()) (c, .inr (j, t)) 1,
    if_neg (c := (nxt d, Sum.inl ()) = (c, Sum.inr (j, t))) (fun h => by cases (Prod.mk.inj h).2),
    if_neg (c := (prv d, Sum.inl ()) = (c, Sum.inr (j, t))) (fun h => by cases (Prod.mk.inj h).2)]
  show (if nxt d = c then N else 0) = _
  by_cases h : d = prv c
  · subst h; rw [nxt_prv, if_pos rfl, if_pos rfl]
  · rw [if_neg (fun h' => h (by rw [← h', prv_nxt])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_rcv (c : Dev nD) (j : Fin 4) (hj : j = 1 ∨ j = 3) (t : Fin 31) :
    tallyOn (dCell c j t) (launchCredit (Pipeline.owing O₀) 0 (dCell c j t)) = (tallyAt (dCell c j t) () N : CellTallies nD τ sig Unit) := by
  unfold tallyAt; refine congrArg _ (Finsupp.ext fun u => ?_); cases u
  rw [Pipeline.launchCredit_owing, Finsupp.single_eq_same, Finset.sum_congr rfl fun d _ => owed_rcv d c j hj t, Finset.sum_ite_eq' Finset.univ (prv c) fun _ => N,
    if_pos (Finset.mem_univ _)]

/-- The array of arrival semaphores of each phase. -/
abbrev rcvArr (b : Fin 2) : Fin 4 := if b = 0 then 1 else 3
theorem rcvArr_or (b : Fin 2) : rcvArr b = 1 ∨ rcvArr b = 3 := by fin_cases b <;> decide

/-- The arrival semaphores. -/
def rcvEmb : Fin 2 × Fin 31 ↪ SemLoc sig := ⟨fun bt => .dma (dsem (rcvArr bt.1) bt.2), fun bt bt' h => by
  have := congrArg cls h
  dsimp only at this
  rw [cls_d, cls_d] at this
  have h1 := Prod.mk.inj (Sum.inr.inj (Option.some.inj this))
  exact Prod.ext ((by decide : ∀ b b' : Fin 2, rcvArr b = rcvArr b' → b = b') _ _ h1.1) h1.2⟩

theorem creds (c : Dev nD) :
    (Pipeline.launchCred O₀ c : sProp 𝕄) ⊢ iprop(cred (tallyAt (barCell c) () 2) ∗ (bigSep Finset.univ fun t : Fin 31 => cred (tallyAt (dCell c 1 t) () N))
      ∗ bigSep Finset.univ fun t : Fin 31 => cred (tallyAt (dCell c 3 t) () N)) := by
  unfold Pipeline.launchCred
  rw [bigSep_univ_at _ (SemLoc.reg barS), launch_bar]
  refine sep_mono_right ?_
  have hsub : Finset.univ.map rcvEmb ⊆ Finset.univ.erase (SemLoc.reg barS : SemLoc sig) := fun x hx => by
    obtain ⟨t, -, rfl⟩ := Finset.mem_map.mp hx
    exact Finset.mem_erase.mpr ⟨(fun h => by cases h), Finset.mem_univ _⟩
  refine (bigSep_subset hsub).trans ?_
  rw [bigSep_map, bigSep_univ_prod, bigSep_univ_eq_bigSepL [(0 : Fin 2), 1] (by decide) (by decide)]
  exact sep_mono (bigSep_mono fun t _ => by rw [← launch_rcv c 1 (.inl rfl) t]; exact Entails.refl _)
    (bigSep_mono fun t _ => by rw [← launch_rcv c 3 (.inr rfl) t]; exact Entails.refl _)

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN, HM⟩
  imodintro
  unfold start G'
  isplitl
  · isplitl [HG]; · iexact HG
    isplitl [H1]; · iexact H1
    isplitl [HN]; · iexact HN
    isplitl [HM]; · iexact HM
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch accPts
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch accPts
  iintro ⟨Hr, HzD, HzB⟩
  isplitl [HzB]; · iexact HzB
  isplitl [HzD] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with zero counters, every weakly fair execution of the thirty-two devices' programs terminates,
    with each window's array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AG
-- ==== Proof.GatherEqual.lean ====
/-
# With the gather, every device's result is the whole of `y`

Row `i` of the result is the row its owner stored, the sum over the devices of their partial products at row `i`:
`y` at row `i`.
-/
module

public import proofs.«01_k».proof.Proof.GatherRun
public import proofs.«01_k».proof.Proof.Equal
public import proofs.«01_k».proof.Proof.Gen.GatherReferenceIdeal.Run

@[expose] public section

set_option maxRecDepth 16384

noncomputable section

namespace Cert.AG

open Cert.GatherIdeal Cert.GatherIdeal.Gen
open Idealize.ShloMosaic Idealize.ShloMosaic.TcCoe
open Cert.RS (accIn outVal)

variable (m : (ℓ : Loc nD τ sig) → Buf (Elt Ideal) ℓ)

/-- Every window's block index at the one point. -/
theorem idx : win0_0.index (0 : Fin 1) = ![0, 0, 0] ∧ win0_1.index (0 : Fin 1) = ![0, 0] ∧ win0_2.index (0 : Fin 1) = ![0, 0]
    ∧ win0_3.index (0 : Fin 1) = ![0, 0, 0] ∧ win0_4.index (0 : Fin 1) = ![0, 0, 0] := by decide +kernel

theorem xstg_eq (c : Dev nD) : xstg m c = m ((c : Thread nD τ).loc main_arg0) := by
  blk_ext! [xstg, idx]
theorem wqstg_eq (c : Dev nD) : wqstg m c = m ((c : Thread nD τ).loc main_arg1) := by
  blk_ext! [wqstg, idx]
theorem wostg_eq (c : Dev nD) : wostg m c = m ((c : Thread nD τ).loc main_arg2) := by
  blk_ext! [wostg, idx]
theorem kstg_eq (c : Dev nD) : kstg m c = m ((c : Thread nD τ).loc main_arg3) := by
  blk_ext! [kstg, idx]
theorem vstg_eq (c : Dev nD) : vstg m c = m ((c : Thread nD τ).loc main_arg4) := by
  blk_ext! [vstg, idx]

/-- Row `a` of device `c`'s own chunk, in the result. -/
theorem own_emb (c : Dev nD) (a : Fin 16) (n : Fin 1024) :
    (oM.access (ownO c)).emb (ix3 (0 : Fin 1) a n) = ix3 (0 : Fin 1) (⟨16 * ((c.val + 1) % 32) + a.val, by omega⟩ : Fin 512) n := by
  have h0 := congrFun (off4_eq c) 0
  have h1 := congrFun (off4_eq c) 1
  have h2 := congrFun (off4_eq c) 2
  funext b
  apply Fin.ext
  match b with
  | ⟨0, _⟩ => show k0_off4 c 0 + 1 * 0 = 0; rw [h0]; rfl
  | ⟨1, _⟩ => show k0_off4 c 1 + 1 * a.val = 16 * ((c.val + 1) % 32) + a.val; rw [h1]; show 16 * ((c.val + 1 + 31 * 0) % 32) + 1 * a.val = _; omega
  | ⟨2, _⟩ => show k0_off4 c 2 + 1 * n.val = n.val; rw [h2]; show 0 + 1 * n.val = n.val; omega

/-- What the own chunk's rows hold. -/
theorem own_read (c : Dev nD) (f : Vec Ideal S512x1024 .f32) (a : Fin 16) (n : Fin 1024) :
    outVal (accM.view.readAt (Elt Ideal) (ownR c).toLoadRect f) (ix3 0 a n) = f (ix2 ⟨16 * ((c.val + 1) % 32) + a.val, by omega⟩ n) := by
  have he := RS.emb_rows (k0_off3_inb c) _ (RS.off3_eq c) ⟨16 * ((c.val + 1) % 32) + a.val, by omega⟩ n a rfl
  exact (RS.outVal_apply _ a n).trans (congrArg f he)

/-- A row a device stores: the sum over the devices. -/
theorem own_full (c : Dev nD) (a : Fin 16) (n : Fin 1024) (f : (cc0_stg5_0 : Ref sig .tc).ty.Contents (Elt Ideal)) :
    ownWritten m c f ((oM.access (ownO c)).emb (ix3 (0 : Fin 1) a n))
      = ((∑ d : Dev nD, (acc0 m d (ix2 ⟨16 * ((c.val + 1) % 32) + a.val, by omega⟩ n) : EReal)) : EReal) := by
  have hw : ∀ u : Vec Ideal S1x16x1024 .f32, (oM.access (ownO c) : View sig .tc _ _ _).write (Elt Ideal) f u Finset.univ
      ((oM.access (ownO c)).emb (ix3 (0 : Fin 1) a n)) = u (ix3 (0 : Fin 1) a n) := fun u =>
    View.write_emb_of_mem (v := (oM.access (ownO c) : View sig .tc _ _ _)) (Val := Elt Ideal) _ _ (Finset.mem_univ _)
  have hs := RS.own_sum (acc0 m) c ⟨16 * ((c.val + 1) % 32) + a.val, by omega⟩ n (by show (16 * ((c.val + 1) % 32) + a.val) / 16 = _; omega)
  rw [← hs]
  have hr := own_read c (accAt m 31 c) a n
  unfold ownWritten
  rw [hw]
  exact hr

/-- An element of the gathered result: the sum over the devices. -/
theorem full_apply (i : Fin 512) (n : Fin 1024) :
    full m (ix3 (0 : Fin 1) i n) = ((∑ d : Dev nD, (acc0 m d (ix2 i n) : EReal)) : EReal) := by
  obtain ⟨c, a, hc⟩ : ∃ (c : Dev nD) (a : Fin 16), i = ⟨16 * ((c.val + 1) % 32) + a.val, by omega⟩ :=
    ⟨⟨(i.val / 16 + 31) % 32, Nat.mod_lt _ (by decide)⟩, ⟨i.val % 16, Nat.mod_lt _ (by decide)⟩,
      Fin.ext (by show i.val = 16 * (((i.val / 16 + 31) % 32 + 1) % 32) + i.val % 16; omega)⟩
  have hmem : (oM.access (ownO c)).emb (ix3 (0 : Fin 1) a n) ∈ (chR (rot c 0)).set := by
    rw [← own_set]
    exact Finset.mem_map.mpr ⟨_, Finset.mem_univ _, rfl⟩
  rw [hc, ← own_emb]
  exact (ownWritten_eq m c (full m) _ hmem).symm.trans (own_full m c a n (full m))

/-- The gathered result is `y`. -/
theorem full_eq (X : Vec Ideal S1x512x1024 .f32) (Wq : Vec Ideal ⟨2, ![1024, 32768]⟩ .f32) (Wo : Vec Ideal ⟨2, ![32768, 1024]⟩ .f32)
    (K V : Vec Ideal ⟨3, ![2048, 256, 128]⟩ .f32)
    (hX : ∀ d : Dev nD, m ((d : Thread nD τ).loc main_arg0) = X)
    (hq : ∀ d : Dev nD, m ((d : Thread nD τ).loc main_arg1) = Layout.block ⟨2, ![1024, 1024]⟩ ⟨2, ![1024, 32768]⟩ 1 32 d Wq)
    (ho : ∀ d : Dev nD, m ((d : Thread nD τ).loc main_arg2) = Layout.block ⟨2, ![1024, 1024]⟩ ⟨2, ![32768, 1024]⟩ 0 32 d Wo)
    (hk : ∀ d : Dev nD, m ((d : Thread nD τ).loc main_arg3) = Layout.block ⟨3, ![2048, 8, 128]⟩ ⟨3, ![2048, 256, 128]⟩ 1 32 d K)
    (hv : ∀ d : Dev nD, m ((d : Thread nD τ).loc main_arg4) = Layout.block ⟨3, ![2048, 8, 128]⟩ ⟨3, ![2048, 256, 128]⟩ 1 32 d V) :
    full m = RS.Ref.projR Wo (RS.Ref.attnR V (RS.Ref.expR (RS.Ref.scoreR X Wq K))) := by
  have hd : ∀ d : Dev nD, acc0 m d = accIn X (Layout.block ⟨2, ![1024, 1024]⟩ ⟨2, ![1024, 32768]⟩ 1 32 d Wq)
      (Layout.block ⟨2, ![1024, 1024]⟩ ⟨2, ![32768, 1024]⟩ 0 32 d Wo) (Layout.block ⟨3, ![2048, 8, 128]⟩ ⟨3, ![2048, 256, 128]⟩ 1 32 d K)
      (Layout.block ⟨3, ![2048, 8, 128]⟩ ⟨3, ![2048, 256, 128]⟩ 1 32 d V) := fun d => by
    unfold acc0
    rw [xstg_eq, wqstg_eq, wostg_eq, kstg_eq, vstg_eq, hX, hq, ho, hk, hv]
  funext j
  have hj : j = ix3 (0 : Fin 1) (j 1 : Fin 512) (j 2 : Fin 1024) := by
    funext b
    match b with
    | ⟨0, _⟩ => exact Fin.ext (by have h : (j 0).val < 1 := (j 0).isLt; show (j 0).val = 0; omega)
    | ⟨1, _⟩ => rfl
    | ⟨2, _⟩ => rfl
  rw [hj]
  exact (full_apply m _ _).trans ((RS.sum_accIn X Wq Wo K V (acc0 m) hd _ _).trans (RS.Ref.y_apply X Wq Wo K V _ _).symm)

/-- The result array ends holding what the gather left. -/
theorem out_final (ρ : Dev nD → PrngReg) (c : Dev nD) : (dats m ρ 0 c).arrAt 5 cfg0.N = full m := by
  refine (dats m ρ 0 c).arrAt_eq_of_after_last 5 t0_0 (by decide +kernel) _ fun j => ?_
  blk_simp
  have h : (dats m ρ 0 c).after 5 t0_0 = full m := by dsimp only [dats]
  rw [h]

end Cert.AG
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Gather
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherReferenceIdeal
public import proofs.«01_k».proof.Proof.Gen.GatherReferenceIdeal.Run
public import proofs.«01_k».proof.Proof.LaunchRun
public import proofs.«01_k».proof.Proof.Equal
public import proofs.«01_k».proof.Proof.GatherLaunch
public import proofs.«01_k».proof.Proof.GatherEqual
public import Idealize.ShloMosaic.Adequacy
public import Idealize.ShloMosaic.Init

@[expose] public section

set_option maxRecDepth 100000

noncomputable section

namespace Cert.Proof

open Idealize.ShloMosaic Idealize.SL.Sem Idealize.ShloMosaic.TcCoe

/-- What the run leaves in an argument array: what was there. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) (r : PUnit × MemSt Cert.KernelIdeal.nD Cert.KernelIdeal.τ Cert.KernelIdeal.sig (Elt F)) (h : RS.QC m ρ r)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c 0).trans ((RS.dats m ρ 0 c).arrAt_in 0 rfl _), (h c 1).trans ((RS.dats m ρ 0 c).arrAt_in 1 rfl _), (h c 2).trans ((RS.dats m ρ 0 c).arrAt_in 2 rfl _),
    (h c 3).trans ((RS.dats m ρ 0 c).arrAt_in 3 rfl _), (h c 4).trans ((RS.dats m ρ 0 c).arrAt_in 4 rfl _)⟩

/-- The frame of the program, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun r h => ⟨args_kept m ρ r h.1, h.2⟩) (RS.run_main m ρ)

section Same

attribute [local instance] Cert.Kernel.Gen.facts Cert.KernelIdeal.Gen.facts

/-- The program read at the extended reals is the program: no operation was rewritten. -/
theorem bodies_same : @Cert.Kernel.defs₀ Bits _ _ = @Cert.KernelIdeal.defs₀ Bits _ _ := by
  refine congrArg Defs.onTc ?_
  funext l x
  match l, x with
  | 0, (t, s) => rfl
  | ⟨n + 1, h⟩, _ => exact absurd h (by omega)

theorem defs_same : @Cert.Kernel.defs Bits _ _ = @Cert.KernelIdeal.defs Bits _ _ := congrArg (Pipeline.defs Cert.KernelIdeal.pcfgs) bodies_same

end Same

theorem frame_kernel : Cert.quiescent_Kernel (hKernel := Cert.Kernel.Gen.facts) := fun m ρ _ => by
  have h := frame_any (F := Bits) m ρ
  rw [← defs_same] at h
  exact h

theorem frame_ideal : Cert.quiescent_KernelIdeal (hKernelIdeal := Cert.KernelIdeal.Gen.facts) := fun m ρ _ => frame_any (F := Ideal) m ρ

/-- The reference has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl _⟩) (Cert.ReferenceIdeal.Value.run (F := Ideal) m ρ)

/-- The two programs compute the same extended reals. -/
theorem equal : Cert.algebraic_KernelIdeal_ReferenceIdeal (hKernelIdeal := Cert.KernelIdeal.Gen.facts) (hReferenceIdeal := Cert.ReferenceIdeal.Gen.facts) :=
  fun m ρ m' ρ' _ hm =>
    ⟨Cert.ReferenceIdeal.Value.res_main_v20 m' 0,
      (θ_run Cert.KernelIdeal.defs _ _).mono (fun r h c => ⟨((h.1 c 5).trans (RS.out_final m ρ c)).trans
          ((RS.outAt_block m _ _ _ _ _ c (fun d => (hm d).1) (fun d => (hm d).2.1) (fun d => (hm d).2.2.1) (fun d => (hm d).2.2.2.1) (fun d => (hm d).2.2.2.2)).trans
            (congrArg (fun v => Layout.block ⟨3, ![1, 16, 1024]⟩ ⟨3, ![1, 512, 1024]⟩ 1 32 c v) (RS.Ref.res_eq m' 0).symm)),
        args_kept (F := Ideal) m ρ r h.1 c⟩) (RS.run_main (F := Ideal) m ρ),
      (θ_run Cert.ReferenceIdeal.defs _ _).mono (fun r h => h 0) (Cert.ReferenceIdeal.Value.run (F := Ideal) m' ρ')⟩

/-- What the run of the program with the gather leaves in an argument array: what was there. -/
theorem args_kept_gather {F : FTy → Type} [FloatOps F] (m : (ℓ : Loc Cert.GatherIdeal.nD Cert.GatherIdeal.τ Cert.GatherIdeal.sig) → Buf (Elt F) ℓ)
    (ρ : Dev Cert.GatherIdeal.nD → PrngReg) (r : PUnit × MemSt Cert.GatherIdeal.nD Cert.GatherIdeal.τ Cert.GatherIdeal.sig (Elt F)) (h : AG.QC m ρ r)
    (c : Dev Cert.GatherIdeal.nD) :
    r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
    ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
    ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
    ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
    ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4) :=
  ⟨(h c 0).trans ((AG.dats m ρ 0 c).arrAt_in 0 rfl _), (h c 1).trans ((AG.dats m ρ 0 c).arrAt_in 1 rfl _), (h c 2).trans ((AG.dats m ρ 0 c).arrAt_in 2 rfl _),
    (h c 3).trans ((AG.dats m ρ 0 c).arrAt_in 3 rfl _), (h c 4).trans ((AG.dats m ρ 0 c).arrAt_in 4 rfl _)⟩

/-- The frame of the program with the gather, for any float values. -/
theorem frame_any_gather {F : FTy → Type} [FloatOps F] (m : (ℓ : Loc Cert.GatherIdeal.nD Cert.GatherIdeal.τ Cert.GatherIdeal.sig) → Buf (Elt F) ℓ)
    (ρ : Dev Cert.GatherIdeal.nD → PrngReg) :
    θ_run (Cert.GatherIdeal.defs (F := F)) (onTc (τ := Cert.GatherIdeal.τ) (Cert.GatherIdeal.main (F := F))) ⟨m, fun _ => 0, ρ⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.sem = fun _ => 0) :=
  (θ_run Cert.GatherIdeal.defs _ _).mono (fun r h => ⟨args_kept_gather m ρ r h.1, h.2⟩) (AG.run_main m ρ)

section SameGather

attribute [local instance] Cert.Gather.Gen.facts Cert.GatherIdeal.Gen.facts

/-- The program with the gather read at the extended reals is the program: no operation was rewritten. -/
theorem bodies_same_gather : @Cert.Gather.defs₀ Bits _ _ = @Cert.GatherIdeal.defs₀ Bits _ _ := by
  refine congrArg Defs.onTc ?_
  funext l x
  match l, x with
  | 0, (t, s) => rfl
  | ⟨n + 1, h⟩, _ => exact absurd h (by omega)

theorem defs_same_gather : @Cert.Gather.defs Bits _ _ = @Cert.GatherIdeal.defs Bits _ _ := congrArg (Pipeline.defs Cert.GatherIdeal.pcfgs) bodies_same_gather

end SameGather

theorem frame_gather : Cert.quiescent_Gather (hGather := Cert.Gather.Gen.facts) := fun m ρ _ => by
  have h := frame_any_gather (F := Bits) m ρ
  rw [← defs_same_gather] at h
  exact h

theorem frame_gatherIdeal : Cert.quiescent_GatherIdeal (hGatherIdeal := Cert.GatherIdeal.Gen.facts) := fun m ρ _ => frame_any_gather (F := Ideal) m ρ

theorem frame_gatherReference : Cert.quiescent_GatherReferenceIdeal (hGatherReferenceIdeal := Cert.GatherReferenceIdeal.Gen.facts) := fun m ρ _ =>
  (θ_run Cert.GatherReferenceIdeal.defs _ _).mono (fun r h => ⟨fun c => (h c).2, sem_eq_zero_of_no_sems rfl _⟩) (Cert.GatherReferenceIdeal.Value.run (F := Ideal) m ρ)

/-- With the gather, the two programs compute the same extended reals. -/
theorem equal_gather : Cert.algebraic_GatherIdeal_GatherReferenceIdeal (hGatherIdeal := Cert.GatherIdeal.Gen.facts) (hGatherReferenceIdeal := Cert.GatherReferenceIdeal.Gen.facts) :=
  fun m ρ m' ρ' _ hm =>
    ⟨RS.Ref.projR _ (RS.Ref.attnR _ (RS.Ref.expR (RS.Ref.scoreR _ _ _))),
      (θ_run Cert.GatherIdeal.defs _ _).mono (fun r h c => ⟨((h.1 c 5).trans (AG.out_final m ρ c)).trans
          (AG.full_eq m _ _ _ _ _ (fun d => (hm d).1) (fun d => (hm d).2.1) (fun d => (hm d).2.2.1) (fun d => (hm d).2.2.2.1) (fun d => (hm d).2.2.2.2)),
        args_kept_gather (F := Ideal) m ρ r h.1 c⟩) (AG.run_main (F := Ideal) m ρ),
      (θ_run Cert.GatherReferenceIdeal.defs _ _).mono (fun r h => ⟨(h 0).1.trans rfl, (h 0).2⟩) (Cert.GatherReferenceIdeal.Value.run (F := Ideal) m' ρ')⟩

theorem claim : Cert.Claim := ⟨Cert.Kernel.Gen.facts, Cert.KernelIdeal.Gen.facts, Cert.ReferenceIdeal.Gen.facts,
  Cert.Gather.Gen.facts, Cert.GatherIdeal.Gen.facts, Cert.GatherReferenceIdeal.Gen.facts,
  frame_kernel, frame_ideal, frame_reference, frame_gather, frame_gatherIdeal, frame_gatherReference,
  trivial, equal, trivial, equal_gather⟩

end Cert.Proof

end
